-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn_inputs [hPre_drawn_inputs : Cert.Pre_drawn_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_drawn_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).1 = (fun _ => 1#1)
    ∧ (Cert.Pre_drawn_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.1 = (fun _ => 1#1)
    ∧ (Cert.Pre_drawn_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.1 = (fun _ => 1#1)
    ∧ (Cert.Pre_drawn_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.1 = (fun _ => 1#1)
    ∧ (Cert.Pre_drawn_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.1 = (fun _ => 1#1)
    ∧ (Cert.Pre_drawn_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.1 = (fun _ => 1#1)
    ∧ (Cert.Pre_drawn_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.1 = (fun _ => 1#1)
    ∧ (Cert.Pre_drawn_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.1 = (fun _ => 1#1)
    ∧ (Cert.Pre_drawn_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.1 = (fun _ => 1#1)
    ∧ (Cert.Pre_drawn_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn_inputs [hPre_drawn_inputs : Cert.Pre_drawn_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).1 = (fun _ => 1#1)
    ∧ (Cert.Pre_drawn_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.1 = (fun _ => 1#1)
    ∧ (Cert.Pre_drawn_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.1 = (fun _ => 1#1)
    ∧ (Cert.Pre_drawn_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.1 = (fun _ => 1#1)
    ∧ (Cert.Pre_drawn_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.1 = (fun _ => 1#1)
    ∧ (Cert.Pre_drawn_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.1 = (fun _ => 1#1)
    ∧ (Cert.Pre_drawn_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.1 = (fun _ => 1#1)
    ∧ (Cert.Pre_drawn_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.1 = (fun _ => 1#1)
    ∧ (Cert.Pre_drawn_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.1 = (fun _ => 1#1)
    ∧ (Cert.Pre_drawn_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_KernelIdeal_pre_drawn_inputs [hKernelIdeal : Cert.KernelIdeal.Facts] [hPre_drawn_inputs : Cert.Pre_drawn_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def quiescent_ReferenceIdeal_pre_drawn_inputs [hReferenceIdeal : Cert.ReferenceIdeal.Facts] [hPre_drawn_inputs : Cert.Pre_drawn_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def preserves_Kernel_KernelIdeal : Prop :=
  IdealRules.named_const.Statement Cert.KernelIdeal.κ "inv24" .f32 0x3D2AAAAB#32 ((1 / 24 : ℝ) : EReal)
  ∧ IdealRules.named_const.Statement Cert.KernelIdeal.κ "inv60" .f32 0x3C888889#32 ((1 / 60 : ℝ) : EReal)
  ∧ IdealRules.named_const.Statement Cert.KernelIdeal.κ "half_pi" .f32 0x3FC90FDB#32 (((1 / 2) * Real.pi : ℝ) : EReal)

def algebraic_KernelIdeal_ReferenceIdeal_pre_drawn_inputs [hKernelIdeal : Cert.KernelIdeal.Facts] [hReferenceIdeal : Cert.ReferenceIdeal.Facts] [hPre_drawn_inputs : Cert.Pre_drawn_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_drawn_inputs : Cert.Pre_drawn_inputs.Facts),
    quiescent_Kernel (hKernel := hKernel)
    ∧ quiescent_KernelIdeal (hKernelIdeal := hKernelIdeal)
    ∧ quiescent_KernelIdeal_pre_drawn_inputs (hKernelIdeal := hKernelIdeal) (hPre_drawn_inputs := hPre_drawn_inputs)
    ∧ quiescent_ReferenceIdeal (hReferenceIdeal := hReferenceIdeal)
    ∧ quiescent_ReferenceIdeal_pre_drawn_inputs (hReferenceIdeal := hReferenceIdeal) (hPre_drawn_inputs := hPre_drawn_inputs)
    ∧ preserves_Kernel_KernelIdeal
    ∧ algebraic_KernelIdeal_ReferenceIdeal_pre_drawn_inputs (hKernelIdeal := hKernelIdeal) (hReferenceIdeal := hReferenceIdeal) (hPre_drawn_inputs := hPre_drawn_inputs)
-- ==== Pre_drawn_inputs.lean ====
abbrev S4096x50 : Shape := ⟨2, ![4096, 50]⟩
abbrev S24x32 : Shape := ⟨2, ![24, 32]⟩
abbrev S2x16 : Shape := ⟨2, ![2, 16]⟩
abbrev S16 : Shape := ⟨1, ![16]⟩
abbrev S16x16 : Shape := ⟨2, ![16, 16]⟩
abbrev S7x8 : Shape := ⟨2, ![7, 8]⟩
abbrev S1x8 : Shape := ⟨2, ![1, 8]⟩
abbrev S8 : Shape := ⟨1, ![8]⟩
abbrev S3x5 : Shape := ⟨2, ![3, 5]⟩
abbrev S1x5 : Shape := ⟨2, ![1, 5]⟩
abbrev S5 : Shape := ⟨1, ![5]⟩
abbrev S5x5 : Shape := ⟨2, ![5, 5]⟩
abbrev S8x8 : Shape := ⟨2, ![8, 8]⟩
abbrev S84x128 : Shape := ⟨2, ![84, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S4096x50 : S_.BroadcastsInDim S4096x50 (![] : Fin 0 → Fin S4096x50.rank)
  bcast_S_S1x5 : S_.BroadcastsInDim S1x5 (![] : Fin 0 → Fin S1x5.rank)
  bcast_S_S5 : S_.BroadcastsInDim S5 (![] : Fin 0 → Fin S5.rank)
  bcast_S_S5x5 : S_.BroadcastsInDim S5x5 (![] : Fin 0 → Fin S5x5.rank)
  bcast_S_S1x8 : S_.BroadcastsInDim S1x8 (![] : Fin 0 → Fin S1x8.rank)
  bcast_S_S8 : S_.BroadcastsInDim S8 (![] : Fin 0 → Fin S8.rank)
  bcast_S_S8x8 : S_.BroadcastsInDim S8x8 (![] : Fin 0 → Fin S8x8.rank)
  bcast_S_S84x128 : S_.BroadcastsInDim S84x128 (![] : Fin 0 → Fin S84x128.rank)

variable [Facts]

def fn_part2 {F : FTy → Type} [FloatOps F] (main_arg21 : FVec F S84x128 .f32) (main_v6 : IVec S4096x50 1) (main_v11 : IVec S4096x50 1) (main_v19 : IVec S4096x50 1) (main_v22 : IVec S1x5 1) (main_v25 : IVec S5 1) (main_v28 : IVec S5x5 1) (main_v31 : IVec S1x8 1) (main_v34 : IVec S8 1) (main_v35 : FVec F S8x8 .f32) : IVec S4096x50 1 × IVec S4096x50 1 × IVec S4096x50 1 × IVec S1x5 1 × IVec S5 1 × IVec S5x5 1 × IVec S1x8 1 × IVec S8 1 × IVec S8x8 1 × IVec S84x128 1 :=
  let main_cst_10 : FVec F S_ .f32 := constant S_ .f32 0x7F800000#32
  let main_v36 : FVec F S8x8 .f32 := broadcastInDim S8x8 ![] bcast_S_S8x8 main_cst_10
  let main_v37 : IVec S8x8 1 := cmpf .olt main_v35 main_v36
  let main_v38 : FVec F S84x128 .f32 := Host.absf main_arg21
  let main_cst_11 : FVec F S_ .f32 := constant S_ .f32 0x7F800000#32
  let main_v39 : FVec F S84x128 .f32 := broadcastInDim S84x128 ![] bcast_S_S84x128 main_cst_11
  let main_v40 : IVec S84x128 1 := cmpf .olt main_v38 main_v39
  (main_v6, main_v11, main_v19, main_v22, main_v25, main_v28, main_v31, main_v34, main_v37, main_v40)

def fn_part1 {F : FTy → Type} [FloatOps F] (main_arg3 : FVec F S4096x50 .f32) (main_arg13 : FVec F S1x5 .f32) (main_arg14 : FVec F S5 .f32) (main_arg15 : FVec F S5x5 .f32) (main_arg17 : FVec F S1x8 .f32) (main_arg18 : FVec F S8 .f32) (main_arg19 : FVec F S8x8 .f32) (main_arg21 : FVec F S84x128 .f32) (main_v6 : IVec S4096x50 1) (main_v11 : IVec S4096x50 1) (main_v16 : IVec S4096x50 1) (main_cst_4 : FVec F S_ .f32) : IVec S4096x50 1 × IVec S4096x50 1 × IVec S4096x50 1 × IVec S1x5 1 × IVec S5 1 × IVec S5x5 1 × IVec S1x8 1 × IVec S8 1 × IVec S8x8 1 × IVec S84x128 1 :=
  let main_v17 : FVec F S4096x50 .f32 := broadcastInDim S4096x50 ![] bcast_S_S4096x50 main_cst_4
  let main_v18 : IVec S4096x50 1 := cmpf .olt main_arg3 main_v17
  let main_v19 : IVec S4096x50 1 := andi main_v16 main_v18
  let main_v20 : FVec F S1x5 .f32 := Host.absf main_arg13
  let main_cst_5 : FVec F S_ .f32 := constant S_ .f32 0x7F800000#32
  let main_v21 : FVec F S1x5 .f32 := broadcastInDim S1x5 ![] bcast_S_S1x5 main_cst_5
  let main_v22 : IVec S1x5 1 := cmpf .olt main_v20 main_v21
  let main_v23 : FVec F S5 .f32 := Host.absf main_arg14
  let main_cst_6 : FVec F S_ .f32 := constant S_ .f32 0x7F800000#32
  let main_v24 : FVec F S5 .f32 := broadcastInDim S5 ![] bcast_S_S5 main_cst_6
  let main_v25 : IVec S5 1 := cmpf .olt main_v23 main_v24
  let main_v26 : FVec F S5x5 .f32 := Host.absf main_arg15
  let main_cst_7 : FVec F S_ .f32 := constant S_ .f32 0x7F800000#32
  let main_v27 : FVec F S5x5 .f32 := broadcastInDim S5x5 ![] bcast_S_S5x5 main_cst_7
  let main_v28 : IVec S5x5 1 := cmpf .olt main_v26 main_v27
  let main_v29 : FVec F S1x8 .f32 := Host.absf main_arg17
  let main_cst_8 : FVec F S_ .f32 := constant S_ .f32 0x7F800000#32
  let main_v30 : FVec F S1x8 .f32 := broadcastInDim S1x8 ![] bcast_S_S1x8 main_cst_8
  let main_v31 : IVec S1x8 1 := cmpf .olt main_v29 main_v30
  let main_v32 : FVec F S8 .f32 := Host.absf main_arg18
  let main_cst_9 : FVec F S_ .f32 := constant S_ .f32 0x7F800000#32
  let main_v33 : FVec F S8 .f32 := broadcastInDim S8 ![] bcast_S_S8 main_cst_9
  let main_v34 : IVec S8 1 := cmpf .olt main_v32 main_v33
  let main_v35 : FVec F S8x8 .f32 := Host.absf main_arg19
  fn_part2 (F := F) main_arg21 main_v6 main_v11 main_v19 main_v22 main_v25 main_v28 main_v31 main_v34 main_v35

def fn {F : FTy → Type} [FloatOps F] (main_arg0 : IVec S4096x50 32) (main_arg1 : IVec S4096x50 32) (main_arg2 : FVec F S4096x50 .f32) (main_arg3 : FVec F S4096x50 .f32) (main_arg4 : FVec F S24x32 .f32) (main_arg5 : FVec F S2x16 .f32) (main_arg6 : FVec F S16 .f32) (main_arg7 : FVec F S16x16 .f32) (main_arg8 : FVec F S16 .f32) (main_arg9 : FVec F S7x8 .f32) (main_arg10 : FVec F S1x8 .f32) (main_arg11 : FVec F S8 .f32) (main_arg12 : FVec F S3x5 .f32) (main_arg13 : FVec F S1x5 .f32) (main_arg14 : FVec F S5 .f32) (main_arg15 : FVec F S5x5 .f32) (main_arg16 : FVec F S5 .f32) (main_arg17 : FVec F S1x8 .f32) (main_arg18 : FVec F S8 .f32) (main_arg19 : FVec F S8x8 .f32) (main_arg20 : FVec F S8 .f32) (main_arg21 : FVec F S84x128 .f32) (main_arg22 : FVec F S128 .f32) (main_arg23 : FVec F S128x64 .f32) (main_arg24 : FVec F S64 .f32) : IVec S4096x50 1 × IVec S4096x50 1 × IVec S4096x50 1 × IVec S1x5 1 × IVec S5 1 × IVec S5x5 1 × IVec S1x8 1 × IVec S8 1 × IVec S8x8 1 × IVec S84x128 1 :=
  let main_cst : FVec F S_ .f32 := constant S_ .f32 0x4B000000#32
  let main_v0 : FVec F S4096x50 .f32 := broadcastInDim S4096x50 ![] bcast_S_S4096x50 main_cst
  let main_v1 : FVec F S4096x50 .f32 := mulf main_arg3 main_v0
  let main_c : IVec S_ 32 := constantI S_ 32 0#32
  let main_v2 : IVec S4096x50 32 := broadcastInDim S4096x50 ![] bcast_S_S4096x50 main_c
  let main_v3 : IVec S4096x50 1 := cmpi .sge main_arg0 main_v2
  let main_c_0 : IVec S_ 32 := constantI S_ 32 24#32
  let main_v4 : IVec S4096x50 32 := broadcastInDim S4096x50 ![] bcast_S_S4096x50 main_c_0
  let main_v5 : IVec S4096x50 1 := cmpi .slt main_arg0 main_v4
  let main_v6 : IVec S4096x50 1 := andi main_v3 main_v5
  let main_c_1 : IVec S_ 32 := constantI S_ 32 0#32
  let main_v7 : IVec S4096x50 32 := broadcastInDim S4096x50 ![] bcast_S_S4096x50 main_c_1
  let main_v8 : IVec S4096x50 1 := cmpi .sge main_arg1 main_v7
  let main_c_2 : IVec S_ 32 := constantI S_ 32 7#32
  let main_v9 : IVec S4096x50 32 := broadcastInDim S4096x50 ![] bcast_S_S4096x50 main_c_2
  let main_v10 : IVec S4096x50 1 := cmpi .slt main_arg1 main_v9
  let main_v11 : IVec S4096x50 1 := andi main_v8 main_v10
  let main_v12 : FVec F S4096x50 .f32 := Host.floor main_v1
  let main_v13 : IVec S4096x50 1 := cmpf .oeq main_v12 main_v1
  let main_cst_3 : FVec F S_ .f32 := constant S_ .f32 0x00000000#32
  let main_v14 : FVec F S4096x50 .f32 := broadcastInDim S4096x50 ![] bcast_S_S4096x50 main_cst_3
  let main_v15 : IVec S4096x50 1 := cmpf .oge main_arg3 main_v14
  let main_v16 : IVec S4096x50 1 := andi main_v13 main_v15
  let main_cst_4 : FVec F S_ .f32 := constant S_ .f32 0x3F800000#32
  fn_part1 (F := F) main_arg3 main_arg13 main_arg14 main_arg15 main_arg17 main_arg18 main_arg19 main_arg21 main_v6 main_v11 main_v16 main_cst_4
-- ==== Kernel.lean ====
abbrev S4096x50 : Shape := ⟨2, ![4096, 50]⟩
abbrev S24x32 : Shape := ⟨2, ![24, 32]⟩
abbrev S2x16 : Shape := ⟨2, ![2, 16]⟩
abbrev S16 : Shape := ⟨1, ![16]⟩
abbrev S16x16 : Shape := ⟨2, ![16, 16]⟩
abbrev S7x8 : Shape := ⟨2, ![7, 8]⟩
abbrev S1x8 : Shape := ⟨2, ![1, 8]⟩
abbrev S8 : Shape := ⟨1, ![8]⟩
abbrev S3x5 : Shape := ⟨2, ![3, 5]⟩
abbrev S1x5 : Shape := ⟨2, ![1, 5]⟩
abbrev S5 : Shape := ⟨1, ![5]⟩
abbrev S5x5 : Shape := ⟨2, ![5, 5]⟩
abbrev S8x8 : Shape := ⟨2, ![8, 8]⟩
abbrev S84x128 : Shape := ⟨2, ![84, 128]⟩
abbrev S128 : Shape := ⟨1, ![128]⟩
abbrev S128x64 : Shape := ⟨2, ![128, 64]⟩
abbrev S64 : Shape := ⟨1, ![64]⟩
abbrev S_ : Shape := ⟨0, ![]⟩
abbrev S4096x56 : Shape := ⟨2, ![4096, 56]⟩
abbrev S8x224x128 : Shape := ⟨3, ![8, 224, 128]⟩
abbrev S1x16 : Shape := ⟨2, ![1, 16]⟩
abbrev S1x128 : Shape := ⟨2, ![1, 128]⟩
abbrev S1x64 : Shape := ⟨2, ![1, 64]⟩
abbrev S4096x50x64 : Shape := ⟨3, ![4096, 50, 64]⟩
abbrev S1x224x128 : Shape := ⟨3, ![1, 224, 128]⟩
abbrev S512x50x64 : Shape := ⟨3, ![512, 50, 64]⟩
abbrev S24x1 : Shape := ⟨2, ![24, 1]⟩
abbrev S24x2 : Shape := ⟨2, ![24, 2]⟩
abbrev S24x16 : Shape := ⟨2, ![24, 16]⟩
abbrev S24x48 : Shape := ⟨2, ![24, 48]⟩
abbrev S48x128 : Shape := ⟨2, ![48, 128]⟩
abbrev S24x128 : Shape := ⟨2, ![24, 128]⟩
abbrev S7x1 : Shape := ⟨2, ![7, 1]⟩
abbrev S7x16 : Shape := ⟨2, ![7, 16]⟩
abbrev S16x128 : Shape := ⟨2, ![16, 128]⟩
abbrev S7x128 : Shape := ⟨2, ![7, 128]⟩
abbrev S5x128 : Shape := ⟨2, ![5, 128]⟩
abbrev S3x128 : Shape := ⟨2, ![3, 128]⟩
abbrev S2x128 : Shape := ⟨2, ![2, 128]⟩
abbrev S8x128 : Shape := ⟨2, ![8, 128]⟩
abbrev S50x128 : Shape := ⟨2, ![50, 128]⟩
abbrev S224x128 : Shape := ⟨2, ![224, 128]⟩
abbrev S448x128 : Shape := ⟨2, ![448, 128]⟩
abbrev S1x28672 : Shape := ⟨2, ![1, 28672]⟩
abbrev S24x28672 : Shape := ⟨2, ![24, 28672]⟩
abbrev S7x28672 : Shape := ⟨2, ![7, 28672]⟩
abbrev S3x28672 : Shape := ⟨2, ![3, 28672]⟩
abbrev S5x1 : Shape := ⟨2, ![5, 1]⟩
abbrev S5x28672 : Shape := ⟨2, ![5, 28672]⟩
abbrev S8x1 : Shape := ⟨2, ![8, 1]⟩
abbrev S8x28672 : Shape := ⟨2, ![8, 28672]⟩
abbrev S50x28672 : Shape := ⟨2, ![50, 28672]⟩
abbrev S28672x128 : Shape := ⟨2, ![28672, 128]⟩
abbrev S28672x64 : Shape := ⟨2, ![28672, 64]⟩
abbrev S512x56x64 : Shape := ⟨3, ![512, 56, 64]⟩

abbrev nBuf : Space → Nat
  | .hbm => 56
  | .vmem => 27
  | .smem => 0
  | _ => 0

abbrev bufTy : (tb : Table) → Fin (tcTables nBuf tb) → BufTy
  | .hbm, ⟨0, _⟩ => ⟨S4096x50, .i32⟩
  | .hbm, ⟨1, _⟩ => ⟨S4096x50, .i32⟩
  | .hbm, ⟨2, _⟩ => ⟨S4096x50, .f32⟩
  | .hbm, ⟨3, _⟩ => ⟨S4096x50, .f32⟩
  | .hbm, ⟨4, _⟩ => ⟨S24x32, .f32⟩
  | .hbm, ⟨5, _⟩ => ⟨S2x16, .f32⟩
  | .hbm, ⟨6, _⟩ => ⟨S16, .f32⟩
  | .hbm, ⟨7, _⟩ => ⟨S16x16, .f32⟩
  | .hbm, ⟨8, _⟩ => ⟨S16, .f32⟩
  | .hbm, ⟨9, _⟩ => ⟨S7x8, .f32⟩
  | .hbm, ⟨10, _⟩ => ⟨S1x8, .f32⟩
  | .hbm, ⟨11, _⟩ => ⟨S8, .f32⟩
  | .hbm, ⟨12, _⟩ => ⟨S3x5, .f32⟩
  | .hbm, ⟨13, _⟩ => ⟨S1x5, .f32⟩
  | .hbm, ⟨14, _⟩ => ⟨S5, .f32⟩
  | .hbm, ⟨15, _⟩ => ⟨S5x5, .f32⟩
  | .hbm, ⟨16, _⟩ => ⟨S5, .f32⟩
  | .hbm, ⟨17, _⟩ => ⟨S1x8, .f32⟩
  | .hbm, ⟨18, _⟩ => ⟨S8, .f32⟩
  | .hbm, ⟨19, _⟩ => ⟨S8x8, .f32⟩
  | .hbm, ⟨20, _⟩ => ⟨S8, .f32⟩
  | .hbm, ⟨21, _⟩ => ⟨S84x128, .f32⟩
  | .hbm, ⟨22, _⟩ => ⟨S128, .f32⟩
  | .hbm, ⟨23, _⟩ => ⟨S128x64, .f32⟩
  | .hbm, ⟨24, _⟩ => ⟨S64, .f32⟩
  | .hbm, ⟨25, _⟩ => ⟨S_, .f32⟩
  | .hbm, ⟨26, _⟩ => ⟨S4096x50, .f32⟩
  | .hbm, ⟨27, _⟩ => ⟨S4096x50, .f32⟩
  | .hbm, ⟨28, _⟩ => ⟨S4096x50, .f32⟩
  | .hbm, ⟨29, _⟩ => ⟨S4096x50, .i32⟩
  | .hbm, ⟨30, _⟩ => ⟨S_, .i32⟩
  | .hbm, ⟨31, _⟩ => ⟨S4096x50, .i32⟩
  | .hbm, ⟨32, _⟩ => ⟨S4096x50, .i32⟩
  | .hbm, ⟨33, _⟩ => ⟨S4096x50, .i32⟩
  | .hbm, ⟨34, _⟩ => ⟨S_, .i32⟩
  | .hbm, ⟨35, _⟩ => ⟨S4096x50, .i32⟩
  | .hbm, ⟨36, _⟩ => ⟨S4096x50, .i32⟩
  | .hbm, ⟨37, _⟩ => ⟨S4096x50, .i32⟩
  | .hbm, ⟨38, _⟩ => ⟨S_, .i32⟩
  | .hbm, ⟨39, _⟩ => ⟨S_, .i32⟩
  | .hbm, ⟨40, _⟩ => ⟨S4096x56, .i32⟩
  | .hbm, ⟨41, _⟩ => ⟨S8x224x128, .i32⟩
  | .hbm, ⟨42, _⟩ => ⟨S_, .i32⟩
  | .hbm, ⟨43, _⟩ => ⟨S_, .f32⟩
  | .hbm, ⟨44, _⟩ => ⟨S4096x56, .f32⟩
  | .hbm, ⟨45, _⟩ => ⟨S8x224x128, .f32⟩
  | .hbm, ⟨46, _⟩ => ⟨S1x16, .f32⟩
  | .hbm, ⟨47, _⟩ => ⟨S1x16, .f32⟩
  | .hbm, ⟨48, _⟩ => ⟨S1x8, .f32⟩
  | .hbm, ⟨49, _⟩ => ⟨S1x5, .f32⟩
  | .hbm, ⟨50, _⟩ => ⟨S1x5, .f32⟩
  | .hbm, ⟨51, _⟩ => ⟨S1x8, .f32⟩
  | .hbm, ⟨52, _⟩ => ⟨S1x8, .f32⟩
  | .hbm, ⟨53, _⟩ => ⟨S1x128, .f32⟩
  | .hbm, ⟨54, _⟩ => ⟨S1x64, .f32⟩
  | .hbm, ⟨55, _⟩ => ⟨S4096x50x64, .f32⟩
  | .local _ .vmem, ⟨0, _⟩ => ⟨S1x224x128, .i32⟩
  | .local _ .vmem, ⟨1, _⟩ => ⟨S1x224x128, .i32⟩
  | .local _ .vmem, ⟨2, _⟩ => ⟨S1x224x128, .f32⟩
  | .local _ .vmem, ⟨3, _⟩ => ⟨S1x224x128, .f32⟩
  | .local _ .vmem, ⟨4, _⟩ => ⟨S24x32, .f32⟩
  | .local _ .vmem, ⟨5, _⟩ => ⟨S2x16, .f32⟩
  | .local _ .vmem, ⟨6, _⟩ => ⟨S1x16, .f32⟩
  | .local _ .vmem, ⟨7, _⟩ => ⟨S16x16, .f32⟩
  | .local _ .vmem, ⟨8, _⟩ => ⟨S1x16, .f32⟩
  | .local _ .vmem, ⟨9, _⟩ => ⟨S7x8, .f32⟩
  | .local _ .vmem, ⟨10, _⟩ => ⟨S1x8, .f32⟩
  | .local _ .vmem, ⟨11, _⟩ => ⟨S1x8, .f32⟩
  | .local _ .vmem, ⟨12, _⟩ => ⟨S3x5, .f32⟩
  | .local _ .vmem, ⟨13, _⟩ => ⟨S1x5, .f32⟩
  | .local _ .vmem, ⟨14, _⟩ => ⟨S1x5, .f32⟩
  | .local _ .vmem, ⟨15, _⟩ => ⟨S5x5, .f32⟩
  | .local _ .vmem, ⟨16, _⟩ => ⟨S1x5, .f32⟩
  | .local _ .vmem, ⟨17, _⟩ => ⟨S1x8, .f32⟩
  | .local _ .vmem, ⟨18, _⟩ => ⟨S1x8, .f32⟩
  | .local _ .vmem, ⟨19, _⟩ => ⟨S8x8, .f32⟩
  | .local _ .vmem, ⟨20, _⟩ => ⟨S1x8, .f32⟩
  | .local _ .vmem, ⟨21, _⟩ => ⟨S84x128, .f32⟩
  | .local _ .vmem, ⟨22, _⟩ => ⟨S1x128, .f32⟩
  | .local _ .vmem, ⟨23, _⟩ => ⟨S128x64, .f32⟩
  | .local _ .vmem, ⟨24, _⟩ => ⟨S1x64, .f32⟩
  | .local _ .vmem, ⟨25, _⟩ => ⟨S512x50x64, .f32⟩
  | .local _ .vmem, ⟨26, _⟩ => ⟨S512x50x64, .f32⟩
  | _, _ => ⟨S4096x50, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_cst : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_c : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_c_0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_c_1 : Ref sig .tc := ⟨.hbm, 38, rfl⟩
abbrev main_call0_v0 : Ref sig .tc := ⟨.hbm, 39, rfl⟩
abbrev main_v10 : Ref sig .tc := ⟨.hbm, 40, rfl⟩
abbrev main_v11 : Ref sig .tc := ⟨.hbm, 41, rfl⟩
abbrev main_c_2 : Ref sig .tc := ⟨.hbm, 42, rfl⟩
abbrev main_call1_v0 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg23_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem23_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x224x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x224x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S24x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S7x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x5 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x5 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x5 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S5x5 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x5 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x8 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x8 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S84x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x64 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x64 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S512x50x64 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== KernelIdeal.lean ====
variable {F : FTy → Type} [FloatOps F] [Named F]
def κ : String → Option EReal := fun
  | "half_pi" => some (((1 / 2) * Real.pi : ℝ) : EReal)
  | "inv24" => some ((1 / 24 : ℝ) : EReal)
  | "inv60" => some ((1 / 60 : ℝ) : EReal)
  | _ => none
-- ==== ReferenceIdeal.lean ====
abbrev S4096x50 : Shape := ⟨2, ![4096, 50]⟩
abbrev S24x32 : Shape := ⟨2, ![24, 32]⟩
abbrev S2x16 : Shape := ⟨2, ![2, 16]⟩
abbrev S16 : Shape := ⟨1, ![16]⟩
abbrev S16x16 : Shape := ⟨2, ![16, 16]⟩
abbrev S7x8 : Shape := ⟨2, ![7, 8]⟩
abbrev S1x8 : Shape := ⟨2, ![1, 8]⟩
abbrev S8 : Shape := ⟨1, ![8]⟩
abbrev S3x5 : Shape := ⟨2, ![3, 5]⟩
abbrev S1x5 : Shape := ⟨2, ![1, 5]⟩
abbrev S5 : Shape := ⟨1, ![5]⟩
abbrev S5x5 : Shape := ⟨2, ![5, 5]⟩
abbrev S8x8 : Shape := ⟨2, ![8, 8]⟩
abbrev S84x128 : Shape := ⟨2, ![84, 128]⟩
abbrev S128 : Shape := ⟨1, ![128]⟩
abbrev S128x64 : Shape := ⟨2, ![128, 64]⟩
abbrev S64 : Shape := ⟨1, ![64]⟩
abbrev S4096x50x1 : Shape := ⟨3, ![4096, 50, 1]⟩
abbrev S4096x50x32 : Shape := ⟨3, ![4096, 50, 32]⟩
abbrev S_ : Shape := ⟨0, ![]⟩
abbrev S4096x50x2 : Shape := ⟨3, ![4096, 50, 2]⟩
abbrev S4096x50x16 : Shape := ⟨3, ![4096, 50, 16]⟩
abbrev S1x1x16 : Shape := ⟨3, ![1, 1, 16]⟩
abbrev S4096x50x48 : Shape := ⟨3, ![4096, 50, 48]⟩
abbrev S4096x50x8 : Shape := ⟨3, ![4096, 50, 8]⟩
abbrev S1x1x8 : Shape := ⟨3, ![1, 1, 8]⟩
abbrev S4096x50x5 : Shape := ⟨3, ![4096, 50, 5]⟩
abbrev S1x1x5 : Shape := ⟨3, ![1, 1, 5]⟩
abbrev S4096x50x12 : Shape := ⟨3, ![4096, 50, 12]⟩
abbrev S4096x50x84 : Shape := ⟨3, ![4096, 50, 84]⟩
abbrev S4096x50x128 : Shape := ⟨3, ![4096, 50, 128]⟩
abbrev S1x1x128 : Shape := ⟨3, ![1, 1, 128]⟩
abbrev S4096x50x64 : Shape := ⟨3, ![4096, 50, 64]⟩
abbrev S1x1x64 : Shape := ⟨3, ![1, 1, 64]⟩

abbrev nBuf : Space → Nat
  | .hbm => 166
  | .vmem => 0
  | .smem => 0
  | _ => 0

abbrev hbmTy0_0 (i : Nat) : BufTy := match i % 128 with
  | 0 => ⟨S4096x50, .i32⟩
  | 1 => ⟨S4096x50, .i32⟩
  | 2 => ⟨S4096x50, .f32⟩
  | 3 => ⟨S4096x50, .f32⟩
  | 4 => ⟨S24x32, .f32⟩
  | 5 => ⟨S2x16, .f32⟩
  | 6 => ⟨S16, .f32⟩
  | 7 => ⟨S16x16, .f32⟩
  | 8 => ⟨S16, .f32⟩
  | 9 => ⟨S7x8, .f32⟩
  | 10 => ⟨S1x8, .f32⟩
  | 11 => ⟨S8, .f32⟩
  | 12 => ⟨S3x5, .f32⟩
  | 13 => ⟨S1x5, .f32⟩
  | 14 => ⟨S5, .f32⟩
  | 15 => ⟨S5x5, .f32⟩
  | 16 => ⟨S5, .f32⟩
  | 17 => ⟨S1x8, .f32⟩
  | 18 => ⟨S8, .f32⟩
  | 19 => ⟨S8x8, .f32⟩
  | 20 => ⟨S8, .f32⟩
  | 21 => ⟨S84x128, .f32⟩
  | 22 => ⟨S128, .f32⟩
  | 23 => ⟨S128x64, .f32⟩
  | 24 => ⟨S64, .f32⟩
  | 25 => ⟨S4096x50x1, .i32⟩
  | 26 => ⟨S4096x50x32, .f32⟩
  | 27 => ⟨S4096x50, .f32⟩
  | 28 => ⟨S_, .f32⟩
  | 29 => ⟨S4096x50, .f32⟩
  | 30 => ⟨S4096x50, .f32⟩
  | 31 => ⟨S_, .f32⟩
  | 32 => ⟨S4096x50, .f32⟩
  | 33 => ⟨S4096x50, .f32⟩
  | 34 => ⟨S4096x50, .f32⟩
  | 35 => ⟨S_, .f32⟩
  | 36 => ⟨S4096x50, .f32⟩
  | 37 => ⟨S4096x50, .f32⟩
  | 38 => ⟨S_, .f32⟩
  | 39 => ⟨S4096x50, .f32⟩
  | 40 => ⟨S4096x50, .f32⟩
  | 41 => ⟨S4096x50, .f32⟩
  | 42 => ⟨S4096x50x1, .f32⟩
  | 43 => ⟨S4096x50x1, .f32⟩
  | 44 => ⟨S4096x50x2, .f32⟩
  | 45 => ⟨S4096x50x16, .f32⟩
  | 46 => ⟨S1x1x16, .f32⟩
  | 47 => ⟨S4096x50x16, .f32⟩
  | 48 => ⟨S4096x50x16, .f32⟩
  | 49 => ⟨S_, .f32⟩
  | 50 => ⟨S4096x50x16, .f32⟩
  | 51 => ⟨S4096x50x16, .f32⟩
  | 52 => ⟨S4096x50x16, .f32⟩
  | 53 => ⟨S1x1x16, .f32⟩
  | 54 => ⟨S4096x50x16, .f32⟩
  | 55 => ⟨S4096x50x16, .f32⟩
  | 56 => ⟨S4096x50x48, .f32⟩
  | 57 => ⟨S4096x50x1, .i32⟩
  | 58 => ⟨S4096x50x8, .f32⟩
  | 59 => ⟨S_, .i32⟩
  | 60 => ⟨S4096x50, .i32⟩
  | 61 => ⟨S4096x50, .i1⟩
  | 62 => ⟨S4096x50, .f32⟩
  | 63 => ⟨S4096x50x1, .f32⟩
  | 64 => ⟨S4096x50x8, .f32⟩
  | 65 => ⟨S1x1x8, .f32⟩
  | 66 => ⟨S4096x50x8, .f32⟩
  | 67 => ⟨S4096x50x8, .f32⟩
  | 68 => ⟨S4096x50x16, .f32⟩
  | 69 => ⟨S_, .f32⟩
  | 70 => ⟨S_, .f32⟩
  | 71 => ⟨S_, .f32⟩
  | 72 => ⟨S4096x50, .f32⟩
  | 73 => ⟨S4096x50, .f32⟩
  | 74 => ⟨S_, .f32⟩
  | 75 => ⟨S4096x50, .f32⟩
  | 76 => ⟨S4096x50, .f32⟩
  | 77 => ⟨S_, .f32⟩
  | 78 => ⟨S4096x50, .f32⟩
  | 79 => ⟨S4096x50, .f32⟩
  | 80 => ⟨S_, .f32⟩
  | 81 => ⟨S4096x50, .f32⟩
  | 82 => ⟨S4096x50, .i1⟩
  | 83 => ⟨S_, .f32⟩
  | 84 => ⟨S4096x50, .f32⟩
  | 85 => ⟨S4096x50, .i1⟩
  | 86 => ⟨S_, .i32⟩
  | 87 => ⟨S_, .i32⟩
  | 88 => ⟨S4096x50, .i32⟩
  | 89 => ⟨S4096x50, .i32⟩
  | 90 => ⟨S4096x50, .i32⟩
  | 91 => ⟨S_, .i32⟩
  | 92 => ⟨S4096x50, .i32⟩
  | 93 => ⟨S4096x50, .i32⟩
  | 94 => ⟨S4096x50x1, .i32⟩
  | 95 => ⟨S4096x50x5, .f32⟩
  | 96 => ⟨S_, .f32⟩
  | 97 => ⟨S4096x50, .f32⟩
  | 98 => ⟨S4096x50, .f32⟩
  | 99 => ⟨S4096x50, .f32⟩
  | 100 => ⟨S4096x50x1, .f32⟩
  | 101 => ⟨S4096x50x5, .f32⟩
  | 102 => ⟨S1x1x5, .f32⟩
  | 103 => ⟨S4096x50x5, .f32⟩
  | 104 => ⟨S4096x50x5, .f32⟩
  | 105 => ⟨S_, .f32⟩
  | 106 => ⟨S4096x50x5, .f32⟩
  | 107 => ⟨S4096x50x5, .f32⟩
  | 108 => ⟨S4096x50x5, .f32⟩
  | 109 => ⟨S1x1x5, .f32⟩
  | 110 => ⟨S4096x50x5, .f32⟩
  | 111 => ⟨S4096x50x5, .f32⟩
  | 112 => ⟨S_, .f32⟩
  | 113 => ⟨S_, .f32⟩
  | 114 => ⟨S4096x50, .f32⟩
  | 115 => ⟨S4096x50, .f32⟩
  | 116 => ⟨S_, .f32⟩
  | 117 => ⟨S4096x50, .f32⟩
  | 118 => ⟨S4096x50, .i1⟩
  | 119 => ⟨S_, .f32⟩
  | 120 => ⟨S4096x50, .f32⟩
  | 121 => ⟨S4096x50, .i1⟩
  | 122 => ⟨S_, .f32⟩
  | 123 => ⟨S_, .i1⟩
  | 124 => ⟨S4096x50, .i1⟩
  | 125 => ⟨S4096x50, .i1⟩
  | 126 => ⟨S4096x50, .i1⟩
  | 127 => ⟨S4096x50, .f32⟩
  | _ => ⟨S4096x50, .i32⟩

abbrev hbmTy0_1 (i : Nat) : BufTy := match i % 128 with
  | 0 => ⟨S4096x50, .f32⟩
  | 1 => ⟨S4096x50, .f32⟩
  | 2 => ⟨S_, .f32⟩
  | 3 => ⟨S4096x50, .f32⟩
  | 4 => ⟨S4096x50, .f32⟩
  | 5 => ⟨S_, .f32⟩
  | 6 => ⟨S4096x50, .f32⟩
  | 7 => ⟨S4096x50, .f32⟩
  | 8 => ⟨S4096x50, .f32⟩
  | 9 => ⟨S4096x50, .f32⟩
  | 10 => ⟨S4096x50x1, .f32⟩
  | 11 => ⟨S4096x50x1, .f32⟩
  | 12 => ⟨S4096x50x2, .f32⟩
  | 13 => ⟨S4096x50x12, .f32⟩
  | 14 => ⟨S4096x50x1, .f32⟩
  | 15 => ⟨S4096x50x8, .f32⟩
  | 16 => ⟨S1x1x8, .f32⟩
  | 17 => ⟨S4096x50x8, .f32⟩
  | 18 => ⟨S4096x50x8, .f32⟩
  | 19 => ⟨S_, .f32⟩
  | 20 => ⟨S4096x50x8, .f32⟩
  | 21 => ⟨S4096x50x8, .f32⟩
  | 22 => ⟨S4096x50x8, .f32⟩
  | 23 => ⟨S1x1x8, .f32⟩
  | 24 => ⟨S4096x50x8, .f32⟩
  | 25 => ⟨S4096x50x8, .f32⟩
  | 26 => ⟨S4096x50x84, .f32⟩
  | 27 => ⟨S4096x50x128, .f32⟩
  | 28 => ⟨S1x1x128, .f32⟩
  | 29 => ⟨S4096x50x128, .f32⟩
  | 30 => ⟨S4096x50x128, .f32⟩
  | 31 => ⟨S_, .f32⟩
  | 32 => ⟨S4096x50x128, .f32⟩
  | 33 => ⟨S4096x50x128, .f32⟩
  | 34 => ⟨S4096x50x64, .f32⟩
  | 35 => ⟨S1x1x64, .f32⟩
  | 36 => ⟨S4096x50x64, .f32⟩
  | 37 => ⟨S4096x50x64, .f32⟩
  | _ => ⟨S4096x50, .i32⟩

abbrev hbmTy (i : Nat) : BufTy := match i / 128 with
  | 0 => hbmTy0_0 i
  | 1 => hbmTy0_1 i
  | _ => ⟨S4096x50, .i32⟩

abbrev bufTy : (tb : Table) → Fin (tcTables nBuf tb) → BufTy
  | .hbm, ⟨i, _⟩ => hbmTy i
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_call0_v0 : Ref sig .tc := ⟨.hbm, 25, rfl⟩
abbrev main_v0 : Ref sig .tc := ⟨.hbm, 26, rfl⟩
abbrev main_v1 : Ref sig .tc := ⟨.hbm, 27, rfl⟩
abbrev main_cst : Ref sig .tc := ⟨.hbm, 28, rfl⟩
abbrev main_v2 : Ref sig .tc := ⟨.hbm, 29, rfl⟩
abbrev main_v3 : Ref sig .tc := ⟨.hbm, 30, rfl⟩
abbrev main_cst_0 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst_1 : Ref sig .tc := ⟨.hbm, 35, rfl⟩
abbrev main_v7 : Ref sig .tc := ⟨.hbm, 36, rfl⟩
abbrev main_v8 : Ref sig .tc := ⟨.hbm, 37, rfl⟩
abbrev main_cst_2 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_call1_cst : Ref sig .tc := ⟨.hbm, 49, rfl⟩
abbrev main_call1_v0 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_call2_v0 : Ref sig .tc := ⟨.hbm, 57, rfl⟩
abbrev main_v25 : Ref sig .tc := ⟨.hbm, 58, rfl⟩
abbrev main_c : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_cst_3 : Ref sig .tc := ⟨.hbm, 69, rfl⟩
abbrev main_cst_4 : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_v35 : Ref sig .tc := ⟨.hbm, 76, rfl⟩
abbrev main_cst_5 : Ref sig .tc := ⟨.hbm, 77, rfl⟩
abbrev main_v36 : Ref sig .tc := ⟨.hbm, 78, rfl⟩
abbrev main_v37 : Ref sig .tc := ⟨.hbm, 79, rfl⟩
abbrev main_cst_6 : Ref sig .tc := ⟨.hbm, 80, rfl⟩
abbrev main_v38 : Ref sig .tc := ⟨.hbm, 81, rfl⟩
abbrev main_v39 : Ref sig .tc := ⟨.hbm, 82, rfl⟩
abbrev main_cst_7 : Ref sig .tc := ⟨.hbm, 83, rfl⟩
abbrev main_v40 : Ref sig .tc := ⟨.hbm, 84, rfl⟩
abbrev main_v41 : Ref sig .tc := ⟨.hbm, 85, rfl⟩
abbrev main_c_8 : Ref sig .tc := ⟨.hbm, 86, rfl⟩
abbrev main_c_9 : Ref sig .tc := ⟨.hbm, 87, rfl⟩
abbrev main_call4_v0 : Ref sig .tc := ⟨.hbm, 88, rfl⟩
abbrev main_call4_v1 : Ref sig .tc := ⟨.hbm, 89, rfl⟩
abbrev main_v42 : Ref sig .tc := ⟨.hbm, 90, rfl⟩
abbrev main_c_10 : Ref sig .tc := ⟨.hbm, 91, rfl⟩
abbrev main_call5_v0 : Ref sig .tc := ⟨.hbm, 92, rfl⟩
abbrev main_v43 : Ref sig .tc := ⟨.hbm, 93, rfl⟩
abbrev main_call6_v0 : Ref sig .tc := ⟨.hbm, 94, rfl⟩
abbrev main_v44 : Ref sig .tc := ⟨.hbm, 95, rfl⟩
abbrev main_cst_11 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_call7_cst : Ref sig .tc := ⟨.hbm, 105, rfl⟩
abbrev main_call7_v0 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_cst_12 : Ref sig .tc := ⟨.hbm, 112, rfl⟩
abbrev main_call8_v0 : Ref sig .tc := ⟨.hbm, 113, rfl⟩
abbrev main_call8_v1 : Ref sig .tc := ⟨.hbm, 114, rfl⟩
abbrev main_call8_v2 : Ref sig .tc := ⟨.hbm, 115, rfl⟩
abbrev main_call8_cst : Ref sig .tc := ⟨.hbm, 116, rfl⟩
abbrev main_call8_v3 : Ref sig .tc := ⟨.hbm, 117, rfl⟩
abbrev main_call8_v4 : Ref sig .tc := ⟨.hbm, 118, rfl⟩
abbrev main_call8_cst_0 : Ref sig .tc := ⟨.hbm, 119, rfl⟩
abbrev main_call8_v5 : Ref sig .tc := ⟨.hbm, 120, rfl⟩
abbrev main_call8_v6 : Ref sig .tc := ⟨.hbm, 121, rfl⟩
abbrev main_call8_cst_1 : Ref sig .tc := ⟨.hbm, 122, rfl⟩
abbrev main_call8_v7 : Ref sig .tc := ⟨.hbm, 123, rfl⟩
abbrev main_call8_v8 : Ref sig .tc := ⟨.hbm, 124, rfl⟩
abbrev main_call8_v9 : Ref sig .tc := ⟨.hbm, 125, rfl⟩
abbrev main_call8_v10 : Ref sig .tc := ⟨.hbm, 126, rfl⟩
abbrev main_call8_v11 : Ref sig .tc := ⟨.hbm, 127, rfl⟩
abbrev main_call8_v12 : Ref sig .tc := ⟨.hbm, 128, rfl⟩
abbrev main_v58 : Ref sig .tc := ⟨.hbm, 129, rfl⟩
abbrev main_cst_13 : Ref sig .tc := ⟨.hbm, 130, rfl⟩
abbrev main_v59 : Ref sig .tc := ⟨.hbm, 131, rfl⟩
abbrev main_v60 : Ref sig .tc := ⟨.hbm, 132, rfl⟩
abbrev main_cst_14 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_v70 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_call9_cst : Ref sig .tc := ⟨.hbm, 147, rfl⟩
abbrev main_call9_v0 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩
abbrev main_v79 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_v83 : Ref sig .tc := ⟨.hbm, 158, rfl⟩
abbrev main_call10_cst : Ref sig .tc := ⟨.hbm, 159, rfl⟩
abbrev main_call10_v0 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩

abbrev nD : Nat := 1
abbrev τ : Topo := Topo.v7x

variable {F : FTy → Type} [FloatOps F]
-- ==== Proof.Sums.lean ====
/- Finite sums of extended reals: cutting a sum into consecutive stretches, picking one row out with a 0/1 column,
   and moving a factor through two layers of finite numbers. -/
module

public import Idealize.ShloMosaic.Lib.Pointwise

@[expose] public section

namespace Cert.Encoder

open Idealize.ShloMosaic

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

/-- A number whose absolute value is below infinity is a real number. -/
theorem isReal_of_abs_lt {x : EReal} (h : max x (-x) < ⊤) : IsReal x := by
  induction x with
  | bot => simp at h
  | top => simp at h
  | coe r => exact IsReal.coe r

theorem coe_sum {n : ℕ} (f : Fin n → ℝ) : ((∑ i, f i : ℝ) : EReal) = ∑ i, (f i : EReal) := by
  classical
  induction (Finset.univ : Finset (Fin n)) using Finset.induction_on with
  | empty => simp
  | insert a s ha ih => rw [Finset.sum_insert ha, Finset.sum_insert ha, EReal.coe_add, ih]

/-- A real factor distributes over a sum with one real term, whatever the other term is. -/
theorem add_mul_real (x w : ℝ) (y : EReal) : ((x : EReal) + y) * (w : EReal) = (x : EReal) * w + y * w := by
  induction y with
  | coe r => rw [← EReal.coe_add, ← EReal.coe_mul, ← EReal.coe_mul, ← EReal.coe_mul, ← EReal.coe_add, add_mul]
  | top =>
    rcases lt_trichotomy w 0 with h | rfl | h
    · rw [EReal.coe_add_top, EReal.top_mul_coe_of_neg h, ← EReal.coe_mul, EReal.add_bot]
    · simp
    · rw [EReal.coe_add_top, EReal.top_mul_coe_of_pos h, ← EReal.coe_mul, EReal.coe_add_top]
  | bot =>
    rcases lt_trichotomy w 0 with h | rfl | h
    · rw [EReal.add_bot, EReal.bot_mul_coe_of_neg h, ← EReal.coe_mul, EReal.coe_add_top]
    · simp
    · rw [EReal.add_bot, EReal.bot_mul_coe_of_pos h, ← EReal.coe_mul, EReal.add_bot]

/-- A second layer `a ↦ a·M + b` followed by the weights `w`, multiplied out ahead of time: with real numbers in `a`, `M`
    and `w` the product of the two matrices and the product of the bias with `w` may be formed first. -/
theorem two_layers {p q : ℕ} {a : Fin p → EReal} {M : Fin p → Fin q → EReal} {b w : Fin q → EReal}
    (ha : ∀ j, IsReal (a j)) (hM : ∀ j l, IsReal (M j l)) (hw : ∀ l, IsReal (w l)) :
    ∑ l, (∑ j, a j * M j l + b l) * w l = ∑ j, a j * (∑ l, M j l * w l) + ∑ l, b l * w l := by
  choose a' ha' using ha
  choose M' hM' using hM
  choose w' hw' using hw
  simp only [ha', hM', hw', ← EReal.coe_mul, ← coe_sum, add_mul_real, Finset.sum_add_distrib]
  congr 2
  simp only [Finset.sum_mul, Finset.mul_sum]
  rw [Finset.sum_comm]
  simp only [mul_assoc]

/-- A sum over 50 rows as its eight stretches of 24, 7, 3, 5, 1, 1, 8 and 1 rows. -/
theorem sum_rows (F : Fin 50 → EReal) :
    ∑ x, F x = (∑ a : Fin 24, F ⟨a.val, by omega⟩) + (∑ a : Fin 7, F ⟨24 + a.val, by omega⟩)
      + (∑ a : Fin 3, F ⟨31 + a.val, by omega⟩) + (∑ a : Fin 5, F ⟨34 + a.val, by omega⟩) + F 39 + F 40
      + (∑ a : Fin 8, F ⟨41 + a.val, by omega⟩) + F 49 := by
  rw [Fin.sum_univ_add (a := 24 + 7 + 3 + 5 + 1 + 1 + 8) (b := 1) F, Fin.sum_univ_add (a := 24 + 7 + 3 + 5 + 1 + 1) (b := 8),
    Fin.sum_univ_add (a := 24 + 7 + 3 + 5 + 1) (b := 1), Fin.sum_univ_add (a := 24 + 7 + 3 + 5) (b := 1),
    Fin.sum_univ_add (a := 24 + 7 + 3) (b := 5), Fin.sum_univ_add (a := 24 + 7) (b := 3), Fin.sum_univ_add (a := 24) (b := 7)]
  simp only [Fin.sum_univ_one]
  rfl

/-- A sum over 84 features as its nine stretches of 32, 16, 8, 8, 5, 5, 1, 1 and 8 features. -/
theorem sum_features (F : Fin 84 → EReal) :
    ∑ x, F x = (∑ a : Fin 32, F ⟨a.val, by omega⟩) + (∑ a : Fin 16, F ⟨32 + a.val, by omega⟩)
      + (∑ a : Fin 8, F ⟨48 + a.val, by omega⟩) + (∑ a : Fin 8, F ⟨56 + a.val, by omega⟩)
      + (∑ a : Fin 5, F ⟨64 + a.val, by omega⟩) + (∑ a : Fin 5, F ⟨69 + a.val, by omega⟩) + F 74 + F 75
      + (∑ a : Fin 8, F ⟨76 + a.val, by omega⟩) := by
  rw [Fin.sum_univ_add (a := 32 + 16 + 8 + 8 + 5 + 5 + 1 + 1) (b := 8) F,
    Fin.sum_univ_add (a := 32 + 16 + 8 + 8 + 5 + 5 + 1) (b := 1), Fin.sum_univ_add (a := 32 + 16 + 8 + 8 + 5 + 5) (b := 1),
    Fin.sum_univ_add (a := 32 + 16 + 8 + 8 + 5) (b := 5), Fin.sum_univ_add (a := 32 + 16 + 8 + 8) (b := 5),
    Fin.sum_univ_add (a := 32 + 16 + 8) (b := 8), Fin.sum_univ_add (a := 32 + 16) (b := 8),
    Fin.sum_univ_add (a := 32) (b := 16)]
  simp only [Fin.sum_univ_one]
  rfl

/-- A 0/1 column that is 1 at one row picks that row's entry. -/
theorem pick_row {n : ℕ} (e : Fin n → EReal) (f : Fin n → EReal) (h : Fin n) (h1 : e h = 1) (h0 : ∀ i, i ≠ h → e i = 0) :
    ∑ i, e i * f i = f h := by
  rw [Finset.sum_eq_single h (fun i _ hi => by rw [h0 i hi, zero_mul]) (fun hn => absurd (Finset.mem_univ h) hn), h1, one_mul]

/-- The comparison of a row number with the number `h`, widened and read as a float: 1 at row `h`, 0 elsewhere. -/
theorem pick_row_word {n : ℕ} (hn : n ≤ 1000) (f : Fin n → EReal) (h : Fin n) (u : BitVec 32) (hu : u = BitVec.ofNat 32 h.val) :
    ∑ i : Fin n, (FloatOps.sitofp (F := Ideal) FTy.f32 (BitVec.setWidth 32 (IntOp.cmpi CmpIPredicate.eq (BitVec.ofNat 32 i.val) u)) : EReal) * f i
      = f h := by
  subst hu
  refine pick_row _ f h ?_ fun i hi => ?_
  · show (((BitVec.setWidth 32 (IntOp.cmpi CmpIPredicate.eq (BitVec.ofNat 32 h.val) (BitVec.ofNat 32 h.val))).toInt : ℝ) : EReal) = 1
    simp [IntOp.cmpi]
  · have hne : BitVec.ofNat 32 i.val ≠ BitVec.ofNat 32 h.val := by
      intro e
      have := congrArg BitVec.toNat e
      simp only [BitVec.toNat_ofNat] at this
      rw [Nat.mod_eq_of_lt (by omega), Nat.mod_eq_of_lt (by omega)] at this
      exact hi (Fin.ext this)
    show (((BitVec.setWidth 32 (IntOp.cmpi CmpIPredicate.eq (BitVec.ofNat 32 i.val) (BitVec.ofNat 32 h.val))).toInt : ℝ) : EReal) = 0
    rw [show IntOp.cmpi CmpIPredicate.eq (BitVec.ofNat 32 i.val) (BitVec.ofNat 32 h.val) = 0#1 by
      simp only [IntOp.cmpi]; rw [beq_eq_false_iff_ne.2 hne]; rfl]
    simp

end Cert.Encoder

end
-- ==== Proof.Spec.lean ====
/- The encoder of one token in plain formulas: the tables and small networks, the hidden layer over all 84 features, and
   the same hidden layer with the second layers of two of the networks multiplied into the composition matrix. -/
module

public import proofs.«01_k».proof.Proof.Sums

@[expose] public section

noncomputable section

namespace Cert.Encoder

/-- The encoder's tables, matrices and biases, each entry an extended real. -/
@[ext] structure Weights where
  hour : Fin 24 → Fin 32 → EReal
  cw1 : Fin 2 → Fin 16 → EReal
  cb1 : Fin 16 → EReal
  cw2 : Fin 16 → Fin 16 → EReal
  cb2 : Fin 16 → EReal
  day : Fin 7 → Fin 8 → EReal
  kw : Fin 8 → EReal
  kb : Fin 8 → EReal
  scale : Fin 3 → Fin 5 → EReal
  mw1 : Fin 5 → EReal
  mb1 : Fin 5 → EReal
  mw2 : Fin 5 → Fin 5 → EReal
  mb2 : Fin 5 → EReal
  vw1 : Fin 8 → EReal
  vb1 : Fin 8 → EReal
  vw2 : Fin 8 → Fin 8 → EReal
  vb2 : Fin 8 → EReal
  w1 : Fin 84 → Fin 128 → EReal
  b1 : Fin 128 → EReal
  w2 : Fin 128 → Fin 64 → EReal
  b2 : Fin 64 → EReal

/-- The matrices that are multiplied together ahead of time, and the first layers that feed them, are real numbers. -/
structure Weights.Finite (W : Weights) : Prop where
  mw1 : ∀ j, IsReal (W.mw1 j)
  mb1 : ∀ j, IsReal (W.mb1 j)
  mw2 : ∀ j l, IsReal (W.mw2 j l)
  vw1 : ∀ j, IsReal (W.vw1 j)
  vb1 : ∀ j, IsReal (W.vb1 j)
  vw2 : ∀ j l, IsReal (W.vw2 j l)
  w1 : ∀ j k, IsReal (W.w1 j k)

/-- The single-precision number nearest to a full turn. -/
def turn : ℝ := 13176795 / 2 ^ 21

/-- The angle of hour `h` on the clock. -/
def hourAngle (h : ℝ) : ℝ := turn * h / 24

/-- The hidden layer of the hour's continuous code. -/
def contIn (W : Weights) (h : Fin 24) (j : Fin 16) : EReal :=
  max ((Real.sin (hourAngle h.val) : EReal) * W.cw1 0 j + (Real.cos (hourAngle h.val) : EReal) * W.cw1 1 j + W.cb1 j) 0

/-- The hour's continuous code. -/
def cont (W : Weights) (h : Fin 24) (l : Fin 16) : EReal := ∑ j, contIn W h j * W.cw2 j l + W.cb2 l

/-- One on the last two days of the week, zero before. -/
def weekend (d : Fin 7) : EReal := if 5 ≤ d.val then 1 else 0

/-- The weekend code of a day. -/
def week (W : Weights) (d : Fin 7) (l : Fin 8) : EReal := weekend d * W.kw l + W.kb l

/-- The hidden layer of the magnitude's code. -/
def magIn (W : Weights) (g : EReal) (j : Fin 5) : EReal := max (g * W.mw1 j + W.mb1 j) 0

/-- The magnitude's code. -/
def mag (W : Weights) (g : EReal) (l : Fin 5) : EReal := ∑ j, magIn W g j * W.mw2 j l + W.mb2 l

/-- The hidden layer of the velocity's code. -/
def velIn (W : Weights) (v : EReal) (j : Fin 8) : EReal := max (v * W.vw1 j + W.vb1 j) 0

/-- The velocity's code. -/
def vel (W : Weights) (v : EReal) (l : Fin 8) : EReal := ∑ j, velIn W v j * W.vw2 j l + W.vb2 l

/-- A token: its hour, day and scale class, the logarithm of its magnitude, the sine and cosine of its phase, its velocity. -/
structure Token where
  h : Fin 24
  d : Fin 7
  s : Fin 3
  g : EReal
  sn : EReal
  cs : EReal
  v : EReal

/-- The hidden layer of the composition before its rectifier: all 84 features against column `k`, and the bias. -/
def hidden (W : Weights) (t : Token) (k : Fin 128) : EReal :=
  (∑ x : Fin 32, W.hour t.h x * W.w1 ⟨x.val, by omega⟩ k) + (∑ x : Fin 16, cont W t.h x * W.w1 ⟨32 + x.val, by omega⟩ k)
    + (∑ x : Fin 8, W.day t.d x * W.w1 ⟨48 + x.val, by omega⟩ k) + (∑ x : Fin 8, week W t.d x * W.w1 ⟨56 + x.val, by omega⟩ k)
    + (∑ x : Fin 5, W.scale t.s x * W.w1 ⟨64 + x.val, by omega⟩ k) + (∑ x : Fin 5, mag W t.g x * W.w1 ⟨69 + x.val, by omega⟩ k)
    + t.sn * W.w1 74 k + t.cs * W.w1 75 k + (∑ x : Fin 8, vel W t.v x * W.w1 ⟨76 + x.val, by omega⟩ k) + W.b1 k

/-- The encoder's output for a token. -/
def encode (W : Weights) (t : Token) (o : Fin 64) : EReal := ∑ k, max (hidden W t k) 0 * W.w2 k o + W.b2 o

/-! ## The rows of the fused matrix -/

/-- The row of an hour. -/
def hourRow (W : Weights) (h : Fin 24) (k : Fin 128) : EReal :=
  (∑ x : Fin 32, W.hour h x * W.w1 ⟨x.val, by omega⟩ k) + ∑ x : Fin 16, cont W h x * W.w1 ⟨32 + x.val, by omega⟩ k

/-- The row of a day. -/
def dayRow (W : Weights) (d : Fin 7) (k : Fin 128) : EReal :=
  (∑ x : Fin 8, W.day d x * W.w1 ⟨48 + x.val, by omega⟩ k) + ∑ x : Fin 8, week W d x * W.w1 ⟨56 + x.val, by omega⟩ k

/-- The row of a scale class. -/
def scaleRow (W : Weights) (s : Fin 3) (k : Fin 128) : EReal := ∑ x : Fin 5, W.scale s x * W.w1 ⟨64 + x.val, by omega⟩ k

/-- A row of the magnitude's second layer times the composition matrix. -/
def magRow (W : Weights) (j : Fin 5) (k : Fin 128) : EReal := ∑ l : Fin 5, W.mw2 j l * W.w1 ⟨69 + l.val, by omega⟩ k

/-- A row of the velocity's second layer times the composition matrix. -/
def velRow (W : Weights) (j : Fin 8) (k : Fin 128) : EReal := ∑ l : Fin 8, W.vw2 j l * W.w1 ⟨76 + l.val, by omega⟩ k

/-- The bias row: the composition's bias and the two second layers' biases times the composition matrix. -/
def biasRow (W : Weights) (k : Fin 128) : EReal :=
  W.b1 k + (∑ l : Fin 5, W.mb2 l * W.w1 ⟨69 + l.val, by omega⟩ k) + ∑ l : Fin 8, W.vb2 l * W.w1 ⟨76 + l.val, by omega⟩ k

/-- The hidden layer as the fused matrix gives it. -/
theorem fused_eq_hidden {W : Weights} (hW : W.Finite) {t : Token} (hg : IsReal t.g) (hv : IsReal t.v) (k : Fin 128) :
    hourRow W t.h k + dayRow W t.d k + scaleRow W t.s k + (∑ j, magIn W t.g j * magRow W j k) + t.sn * W.w1 74 k + t.cs * W.w1 75 k
      + (∑ j, velIn W t.v j * velRow W j k) + biasRow W k = hidden W t k := by
  have hm := two_layers (a := magIn W t.g) (M := W.mw2) (b := W.mb2) (w := fun l => W.w1 ⟨69 + l.val, by omega⟩ k)
    (fun j => ((hg.mul (hW.mw1 j)).add (hW.mb1 j)).max IsReal.zero) hW.mw2 (fun l => hW.w1 _ _)
  have hv' := two_layers (a := velIn W t.v) (M := W.vw2) (b := W.vb2) (w := fun l => W.w1 ⟨76 + l.val, by omega⟩ k)
    (fun j => ((hv.mul (hW.vw1 j)).add (hW.vb1 j)).max IsReal.zero) hW.vw2 (fun l => hW.w1 _ _)
  have em : (∑ x : Fin 5, mag W t.g x * W.w1 ⟨69 + x.val, by omega⟩ k) = _ := hm
  have ev : (∑ x : Fin 8, vel W t.v x * W.w1 ⟨76 + x.val, by omega⟩ k) = _ := hv'
  unfold hidden hourRow dayRow scaleRow biasRow
  rw [em, ev]
  simp only [magRow, velRow]
  abel

end Cert.Encoder

end
-- ==== Proof.Scalars.lean ====
/- The scalar side of the encoder: the literals as real numbers, the clipped time difference, its scale class, the
   logarithm of its magnitude and the sine and cosine of its phase, as the kernel and the reference each compute them. -/
module

public import proofs.«01_k».proof.Proof.Spec

@[expose] public section

noncomputable section

namespace Cert.Encoder

open Idealize.ShloMosaic

/-! ## Literals -/

theorem lit_zero : Ideal.ofBits .f32 0x00000000#32 = 0 := by simp [Ideal.ofBits, Ideal.ieee, -EReal.coe_mul]

theorem lit_five : Ideal.ofBits .f32 0x40A00000#32 = ((5 : ℝ) : EReal) := by
  simp [Ideal.ofBits, Ideal.ieee, -EReal.coe_mul]; norm_num

theorem lit_day : Ideal.ofBits .f32 0x41C00000#32 = ((24 : ℝ) : EReal) := by
  simp [Ideal.ofBits, Ideal.ieee, -EReal.coe_mul]; norm_num

theorem lit_sixty : Ideal.ofBits .f32 0x42700000#32 = ((60 : ℝ) : EReal) := by
  simp [Ideal.ofBits, Ideal.ieee, -EReal.coe_mul]; norm_num

theorem lit_turn : Ideal.ofBits .f32 0x40C90FDB#32 = ((turn : ℝ) : EReal) := by
  simp [Ideal.ofBits, Ideal.ieee, -EReal.coe_mul, turn]; norm_num

theorem lit_turn_day : Ideal.ofBits .f32 0x3E860A92#32 = ((turn / 24 : ℝ) : EReal) := by
  simp [Ideal.ofBits, Ideal.ieee, -EReal.coe_mul, turn]; norm_num

theorem lit_turn_sixty : Ideal.ofBits .f32 0x3DD67750#32 = ((turn / 60 : ℝ) : EReal) := by
  simp [Ideal.ofBits, Ideal.ieee, -EReal.coe_mul, turn]; norm_num

theorem lit_grid : Ideal.ofBits .f32 0x4B000000#32 = ((8388608 : ℝ) : EReal) := by
  simp [Ideal.ofBits, Ideal.ieee, -EReal.coe_mul]

theorem lit_step : Ideal.ofBits .f32 0x34000000#32 = ((1 / 8388608 : ℝ) : EReal) := by
  simp [Ideal.ofBits, Ideal.ieee, -EReal.coe_mul]
  norm_num

theorem lit_one : Ideal.ofBits .f32 0x3F800000#32 = ((1 : ℝ) : EReal) := by
  simp [Ideal.ofBits, Ideal.ieee, -EReal.coe_mul]; norm_num

/-! ## The clipped time difference -/

/-- A time difference clipped to a day is a real number between 0 and 24. -/
theorem clip_real (x : EReal) : ∃ r : ℝ, 0 ≤ r ∧ r ≤ 24 ∧ min ((24 : ℝ) : EReal) (max 0 x) = (r : EReal) := by
  have hb : (0 : EReal) ≤ min ((24 : ℝ) : EReal) (max 0 x) := le_min (by exact_mod_cast (by norm_num : (0 : ℝ) ≤ 24)) (le_max_left _ _)
  have ht : min ((24 : ℝ) : EReal) (max 0 x) ≤ ((24 : ℝ) : EReal) := min_le_left _ _
  generalize min ((24 : ℝ) : EReal) (max 0 x) = y at hb ht
  induction y with
  | bot => simp at hb
  | top => simp at ht
  | coe r => exact ⟨r, by exact_mod_cast hb, by exact_mod_cast ht, rfl⟩

/-- The logarithm of the magnitude. -/
def magnitude (r : ℝ) : ℝ := Real.log (1 + r / 24)

/-- The phase within the hour. -/
def phase (r : ℝ) : ℝ := turn * (r * 60 - 60 * (⌊r⌋ : ℝ)) / 60

/-- The scale class: below five minutes, below an hour, longer. -/
def scaleOf (r : ℝ) : Fin 3 := if r * 60 < 5 then 0 else if r * 60 < 60 then 1 else 2

section
variable {r : ℝ} (h0 : 0 ≤ r) (h24 : r ≤ 24)
include h0

theorem log1p_mul : Ideal.log1p ((r : EReal) * ((1 / 24 : ℝ) : EReal)) = (magnitude r : EReal) := by
  have h : ¬ (1 + r * (1 / 24) ≤ 0) := by have := mul_nonneg h0 (by norm_num : (0 : ℝ) ≤ 1 / 24); linarith
  rw [← EReal.coe_mul, Ideal.log1p, ← EReal.coe_one, ← EReal.coe_add, Ideal.log_coe, if_neg h, magnitude]
  norm_num [div_eq_mul_inv]

theorem log1p_div : Ideal.log1p (Ideal.div (r : EReal) ((24 : ℝ) : EReal)) = (magnitude r : EReal) := by
  rw [Ideal.div_coe (by norm_num), log1p_mul h0]

omit h0 in
theorem minute_floor : Ideal.liftRound Int.floor ((r : EReal) * ((60 : ℝ) : EReal) * ((1 / 60 : ℝ) : EReal)) = ((⌊r⌋ : ℝ) : EReal) := by
  rw [← EReal.coe_mul, ← EReal.coe_mul, Ideal.liftRound_coe, show r * 60 * (1 / 60) = r by ring]

omit h0 in
theorem phase_mul : ((r : EReal) * ((60 : ℝ) : EReal) - ((60 : ℝ) : EReal) * ((⌊r⌋ : ℝ) : EReal)) * ((turn / 60 : ℝ) : EReal) = (phase r : EReal) := by
  rw [← EReal.coe_mul, ← EReal.coe_mul, ← EReal.coe_sub, ← EReal.coe_mul, phase]
  congr 1; ring

omit h0 in
theorem sin_quarter (x : ℝ) : Ideal.sin ((x : EReal) + (((1 / 2) * Real.pi : ℝ) : EReal)) = (Real.cos x : EReal) := by
  rw [← EReal.coe_add, Ideal.sin_coe, show x + 1 / 2 * Real.pi = x + Real.pi / 2 by ring, Real.sin_add_pi_div_two]

theorem rem_sixty : Ideal.remf ((r : EReal) * ((60 : ℝ) : EReal)) ((60 : ℝ) : EReal) = ((r * 60 - 60 * (⌊r⌋ : ℝ) : ℝ) : EReal) := by
  rw [← EReal.coe_mul, Ideal.remf_coe, if_neg (by norm_num), show r * 60 / 60 = r by ring, Ideal.truncInt, if_pos h0]

omit h0 in
/-- A remainder that is not negative, by a modulus that is not, needs no correction of its sign. -/
theorem no_correction {u v a b : EReal} {e : BitVec 1} [Decidable (u < 0)] [Decidable (v < 0)] (hu : ¬ u < 0) (hv : ¬ v < 0) :
    Scalar.select (IntOp.andi (IntOp.cmpi CmpIPredicate.ne (BitVec.ofBool (decide (u < 0))) (BitVec.ofBool (decide (v < 0)))) e) a b = b := by
  rw [decide_eq_false hu, decide_eq_false hv]
  have : IntOp.andi (IntOp.cmpi CmpIPredicate.ne (BitVec.ofBool false) (BitVec.ofBool false)) e = 0#1 := by
    simp [IntOp.andi, IntOp.cmpi]
  rw [this]
  rfl

omit h0 in
theorem sixty_not_neg : ¬ (((60 : ℝ) : EReal) < 0) := by
  rw [not_lt]; exact_mod_cast (by norm_num : (0 : ℝ) ≤ 60)

omit h0 in
theorem minute_not_neg : ¬ (((r * 60 - 60 * (⌊r⌋ : ℝ) : ℝ) : EReal) < 0) := by
  rw [not_lt]
  have := Int.floor_le r
  exact_mod_cast (by linarith : (0 : ℝ) ≤ r * 60 - 60 * (⌊r⌋ : ℝ))

omit h0 in
theorem phase_div : Ideal.div (((turn : ℝ) : EReal) * ((r * 60 - 60 * (⌊r⌋ : ℝ) : ℝ) : EReal)) ((60 : ℝ) : EReal) = (phase r : EReal) := by
  rw [← EReal.coe_mul, Ideal.div_coe (by norm_num), ← EReal.coe_mul, phase]
  congr 1; ring

omit h0 in
theorem scale_word :
    (if (r : EReal) * ((60 : ℝ) : EReal) < ((5 : ℝ) : EReal) then 0#32 else if (r : EReal) * ((60 : ℝ) : EReal) < ((60 : ℝ) : EReal) then 1#32 else 2#32)
      = BitVec.ofNat 32 (scaleOf r).val := by
  rw [← EReal.coe_mul]
  simp only [EReal.coe_lt_coe_iff, scaleOf]
  by_cases h : r * 60 < 5
  · rw [if_pos h, if_pos h]; rfl
  · rw [if_neg h, if_neg h]
    by_cases h' : r * 60 < 60
    · rw [if_pos h', if_pos h']; rfl
    · rw [if_neg h', if_neg h']; rfl

end

/-! ## The hour's angle -/

theorem sitofp_small {n : ℕ} (h : n < 1000) : (FloatOps.sitofp (F := Ideal) FTy.f32 (BitVec.ofNat 32 n) : EReal) = ((n : ℝ) : EReal) := by
  show (((BitVec.ofNat 32 n).toInt : ℝ) : EReal) = _
  rw [BitVec.toInt_ofNat', Int.bmod_eq_of_le (by omega) (by omega)]
  norm_cast

theorem hourAngle_mul {h : Fin 24} :
    Ideal.ofBits .f32 0x3E860A92#32 * (FloatOps.sitofp (F := Ideal) FTy.f32 (BitVec.ofNat 32 h.val) : EReal) = (hourAngle h.val : EReal) := by
  rw [lit_turn_day, sitofp_small (by omega), ← EReal.coe_mul, hourAngle]
  congr 1; ring

theorem hourAngle_div {h : Fin 24} :
    Ideal.div (Ideal.ofBits .f32 0x40C90FDB#32 * (FloatOps.sitofp (F := Ideal) FTy.f32 (BitVec.ofNat 32 h.val) : EReal)) ((24 : ℝ) : EReal) = (hourAngle h.val : EReal) := by
  rw [lit_turn, sitofp_small (by omega), ← EReal.coe_mul, Ideal.div_coe (by norm_num), ← EReal.coe_mul, hourAngle]
  congr 1; ring

/-- The token's values that the time difference gives. -/
def token (h : Fin 24) (d : Fin 7) (r : ℝ) (v : EReal) : Token :=
  ⟨h, d, scaleOf r, magnitude r, Real.sin (phase r), Real.cos (phase r), v⟩

end Cert.Encoder

end
-- ==== Proof.Words.lean ====
/- The word that carries a token's hour, day and velocity: how it is put together and how its fields are read back. -/
module

public import proofs.«01_k».proof.Proof.Scalars

@[expose] public section

noncomputable section

namespace Cert.Encoder

open Idealize.ShloMosaic

section
variable {h d q : ℕ} (hh : h < 32) (hd : d < 8) (hq : q < 2 ^ 23)
include hh hd hq

theorem word_lt : q * 256 + d * 32 + h < 2 ^ 31 := by omega

/-- The hour, the day shifted by five bits and the velocity's step shifted by eight, joined in one word. -/
theorem word_join :
    IntOp.ori (IntOp.ori (BitVec.ofNat 32 h) (IntOp.shli .host (BitVec.ofNat 32 d) 5#32)) (IntOp.shli .host (BitVec.ofNat 32 q) 8#32)
      = BitVec.ofNat 32 (q * 256 + d * 32 + h) := by
  have e1 : h ||| d <<< 5 = d * 32 + h := by
    rw [Nat.or_comm, ← Nat.shiftLeft_add_eq_or_of_lt (by omega : h < 2 ^ 5), Nat.shiftLeft_eq]
  have e2 : (d * 32 + h) ||| q <<< 8 = q * 256 + d * 32 + h := by
    rw [Nat.or_comm, ← Nat.shiftLeft_add_eq_or_of_lt (by omega : d * 32 + h < 2 ^ 8), Nat.shiftLeft_eq, Nat.add_assoc]
  apply BitVec.eq_of_toNat_eq
  have s1 : IntOp.shli .host (BitVec.ofNat 32 d) 5#32 = BitVec.ofNat 32 d <<< 5#32 := if_pos (by decide)
  have s2 : IntOp.shli .host (BitVec.ofNat 32 q) 8#32 = BitVec.ofNat 32 q <<< 8#32 := if_pos (by decide)
  rw [s1, s2]
  simp only [IntOp.ori, BitVec.toNat_or, BitVec.shiftLeft_eq', BitVec.toNat_shiftLeft, BitVec.toNat_ofNat]
  have b5 : 5 % 2 ^ 32 = 5 := by norm_num
  have b8 : 8 % 2 ^ 32 = 8 := by norm_num
  rw [b5, b8, Nat.mod_eq_of_lt (by omega : h < 2 ^ 32), Nat.mod_eq_of_lt (by omega : d < 2 ^ 32), Nat.mod_eq_of_lt (by omega : q < 2 ^ 32),
    Nat.mod_eq_of_lt (by rw [Nat.shiftLeft_eq]; omega), Nat.mod_eq_of_lt (by rw [Nat.shiftLeft_eq]; omega), e1, e2,
    Nat.mod_eq_of_lt (by omega)]

/-- The low five bits are the hour. -/
theorem word_hour : IntOp.andi (BitVec.ofNat 32 (q * 256 + d * 32 + h)) 31#32 = BitVec.ofNat 32 h := by
  apply BitVec.eq_of_toNat_eq
  simp only [IntOp.andi, BitVec.toNat_and, BitVec.toNat_ofNat]
  rw [Nat.mod_eq_of_lt (by omega), show 31 % 2 ^ 32 = 2 ^ 5 - 1 by norm_num, Nat.and_two_pow_sub_one_eq_mod, Nat.mod_eq_of_lt (by omega : h < 2 ^ 32)]
  omega

theorem word_shift (k : ℕ) (hk : k < 32) :
    IntOp.shrsi .vector (BitVec.ofNat 32 (q * 256 + d * 32 + h)) (BitVec.ofNat 32 k) = BitVec.ofNat 32 ((q * 256 + d * 32 + h) / 2 ^ k) := by
  have hl := word_lt hh hd hq
  have hs : IntOp.shrsi .vector (BitVec.ofNat 32 (q * 256 + d * 32 + h)) (BitVec.ofNat 32 k)
      = (BitVec.ofNat 32 (q * 256 + d * 32 + h)).sshiftRight' (BitVec.ofNat 32 k) :=
    if_pos (by rw [BitVec.toNat_ofNat, Nat.mod_eq_of_lt (by omega)]; exact hk)
  rw [hs, BitVec.sshiftRight', BitVec.sshiftRight_eq_of_msb_false (by
    rw [BitVec.msb_eq_false_iff_two_mul_lt, BitVec.toNat_ofNat, Nat.mod_eq_of_lt (by omega)]; omega)]
  apply BitVec.eq_of_toNat_eq
  have hlt : (q * 256 + d * 32 + h) / 2 ^ k < 2 ^ 32 := lt_of_le_of_lt (Nat.div_le_self _ _) (by omega)
  rw [BitVec.toNat_ushiftRight, BitVec.toNat_ofNat, BitVec.toNat_ofNat, BitVec.toNat_ofNat, Nat.mod_eq_of_lt (by omega : k < 2 ^ 32),
    Nat.mod_eq_of_lt (by omega : q * 256 + d * 32 + h < 2 ^ 32), Nat.shiftRight_eq_div_pow, Nat.mod_eq_of_lt hlt]

/-- The next three bits are the day. -/
theorem word_day : IntOp.andi (IntOp.shrsi .vector (BitVec.ofNat 32 (q * 256 + d * 32 + h)) 5#32) 7#32 = BitVec.ofNat 32 d := by
  rw [word_shift hh hd hq 5 (by norm_num)]
  apply BitVec.eq_of_toNat_eq
  simp only [IntOp.andi, BitVec.toNat_and, BitVec.toNat_ofNat]
  rw [Nat.mod_eq_of_lt (by omega), show 7 % 2 ^ 32 = 2 ^ 3 - 1 by norm_num, Nat.and_two_pow_sub_one_eq_mod, Nat.mod_eq_of_lt (by omega : d < 2 ^ 32)]
  omega

/-- The remaining bits are the velocity's step. -/
theorem word_step : IntOp.shrsi .vector (BitVec.ofNat 32 (q * 256 + d * 32 + h)) 8#32 = BitVec.ofNat 32 q := by
  rw [word_shift hh hd hq 8 (by norm_num)]
  congr 1
  omega

end

theorem sitofp_word {n : ℕ} (h : n < 2 ^ 31) : (FloatOps.sitofp (F := Ideal) FTy.f32 (BitVec.ofNat 32 n) : EReal) = ((n : ℝ) : EReal) := by
  show (((BitVec.ofNat 32 n).toInt : ℝ) : EReal) = _
  rw [BitVec.toInt_ofNat', Int.bmod_eq_of_le (by omega) (by omega)]
  norm_cast

/-- A step read as a float and scaled back to the unit interval. -/
theorem step_scaled {q : ℕ} (hq : q < 2 ^ 23) :
    (FloatOps.sitofp (F := Ideal) FTy.f32 (BitVec.ofNat 32 q) : EReal) * Ideal.ofBits .f32 0x34000000#32 = (((q : ℝ) / 8388608 : ℝ) : EReal) := by
  rw [sitofp_word (by omega), lit_step, ← EReal.coe_mul]
  congr 1; ring

/-- A word between 0 and `n` as a signed number is one of the numbers below `n`. -/
theorem word_below {n : ℕ} {x : BitVec 32} (hn : n ≤ 1000) (h0 : 0 ≤ x.toInt) (h1 : x.toInt < n) : ∃ i : Fin n, x = BitVec.ofNat 32 i.val := by
  have e : x.toInt = x.toNat := by
    rw [BitVec.toInt_eq_toNat_cond] at h0 ⊢
    split at h0 <;> rename_i hc
    · rw [if_pos hc]
    · have := x.isLt; omega
  refine ⟨⟨x.toNat, by omega⟩, ?_⟩
  apply BitVec.eq_of_toNat_eq
  rw [BitVec.toNat_ofNat, Nat.mod_eq_of_lt x.isLt]

/-- A velocity that is a whole number of steps: the step number, as the kernel's host line computes it. -/
theorem velocity_step {v : EReal}
    (hf : Ideal.liftRound Int.floor (v * Ideal.ofBits .f32 0x4B000000#32) = v * Ideal.ofBits .f32 0x4B000000#32)
    (h0 : (0 : EReal) ≤ v) (h1 : v < ((1 : ℝ) : EReal)) :
    ∃ q : ℕ, q < 2 ^ 23 ∧ v = (((q : ℝ) / 8388608 : ℝ) : EReal)
      ∧ Ideal.fptosi 32 (Ideal.liftRound Int.floor (v * Ideal.ofBits .f32 0x4B000000#32)) = BitVec.ofNat 32 q := by
  induction v with
  | bot => simp at h0
  | top => simp at h1
  | coe r =>
    have r0 : 0 ≤ r := by exact_mod_cast h0
    have r1 : r < 1 := by exact_mod_cast h1
    rw [lit_grid, ← EReal.coe_mul, Ideal.liftRound_coe] at hf
    have hr : ((⌊r * 8388608⌋ : ℤ) : ℝ) = r * 8388608 := by exact_mod_cast hf
    have f0 : 0 ≤ ⌊r * 8388608⌋ := Int.floor_nonneg.2 (by positivity)
    obtain ⟨q, hq⟩ := Int.eq_ofNat_of_zero_le f0
    have hqr : (q : ℝ) = r * 8388608 := by rw [← hr, hq]; norm_cast
    have hlt : q < 2 ^ 23 := by
      have : (q : ℝ) < 8388608 := by rw [hqr]; linarith
      have : q < 8388608 := by exact_mod_cast this
      omega
    refine ⟨q, hlt, ?_, ?_⟩
    · congr 1; rw [hqr]; ring
    · rw [lit_grid, ← EReal.coe_mul, Ideal.liftRound_coe, hq, Ideal.fptosi, Ideal.toIntClamped_coe]
      have hqi : (((q : ℤ) : ℝ)) = (q : ℝ) := by norm_cast
      simp only [Int.ofNat_eq_natCast, hqi]
      rw [if_pos (by positivity), Int.floor_natCast,
        show max (-((2 ^ (32 - 1) : ℕ) : ℤ)) (min (((2 ^ (32 - 1) : ℕ) : ℤ) - 1) (q : ℤ)) = (q : ℤ) by norm_num; omega]
      exact BitVec.ofInt_natCast 32 q

end Cert.Encoder

end
-- ==== Proof.Fused.lean ====
/- The matrix the kernel's body forms from the tables and weights: its rows, named by the encoder's formulas. -/
module

public import proofs.«01_k».proof.Proof.Words
public import proofs.«01_k».proof.Proof.Gen.KernelIdeal.Frame
public import Idealize.ShloMosaic.Lib.Pipeline.ValueKit

@[expose] public section

set_option maxRecDepth 16384

noncomputable section

namespace Cert.KernelIdeal.Gen

open Idealize.ShloMosaic Idealize.ShloMosaic.TcCoe Idealize.SL.Sem
open Cert.Encoder

/-- The tables and weights as the kernel's blocks hold them: each bias is a row. -/
structure Blocks where
  x2 : FVec Ideal S24x32 .f32
  x3 : FVec Ideal S2x16 .f32
  x4 : FVec Ideal S1x16 .f32
  x5 : FVec Ideal S16x16 .f32
  x6 : FVec Ideal S1x16 .f32
  x7 : FVec Ideal S7x8 .f32
  x8 : FVec Ideal S1x8 .f32
  x9 : FVec Ideal S1x8 .f32
  x10 : FVec Ideal S3x5 .f32
  x11 : FVec Ideal S1x5 .f32
  x12 : FVec Ideal S1x5 .f32
  x13 : FVec Ideal S5x5 .f32
  x14 : FVec Ideal S1x5 .f32
  x15 : FVec Ideal S1x8 .f32
  x16 : FVec Ideal S1x8 .f32
  x17 : FVec Ideal S8x8 .f32
  x18 : FVec Ideal S1x8 .f32
  x19 : FVec Ideal S84x128 .f32
  x20 : FVec Ideal S1x128 .f32
  x21 : FVec Ideal S128x64 .f32
  x22 : FVec Ideal S1x64 .f32

/-- The encoder's weights in the blocks. -/
def Blocks.weights (B : Blocks) : Weights where
  hour h x := B.x2 (ix2 h x)
  cw1 i j := B.x3 (ix2 i j)
  cb1 j := B.x4 (ix2 0 j)
  cw2 j l := B.x5 (ix2 j l)
  cb2 l := B.x6 (ix2 0 l)
  day d x := B.x7 (ix2 d x)
  kw x := B.x8 (ix2 0 x)
  kb x := B.x9 (ix2 0 x)
  scale s x := B.x10 (ix2 s x)
  mw1 j := B.x11 (ix2 0 j)
  mb1 j := B.x12 (ix2 0 j)
  mw2 j l := B.x13 (ix2 j l)
  mb2 l := B.x14 (ix2 0 l)
  vw1 j := B.x15 (ix2 0 j)
  vb1 j := B.x16 (ix2 0 j)
  vw2 j l := B.x17 (ix2 j l)
  vb2 l := B.x18 (ix2 0 l)
  w1 x k := B.x19 (ix2 x k)
  b1 k := B.x20 (ix2 0 k)
  w2 k o := B.x21 (ix2 k o)
  b2 o := B.x22 (ix2 0 o)

/-- The fused matrix over the blocks. -/
def Blocks.fused (B : Blocks) : FVec Ideal S50x128 .f32 :=
  k0_pay9 B.x2 B.x3 (k0_pay2 B.x4) B.x5 (k0_pay3 B.x6) B.x7 B.x8 (k0_pay4 B.x9) B.x10 B.x13 (k0_pay5 B.x14) B.x17 (k0_pay6 B.x18) B.x19
    (k0_pay7 B.x20) (k0_pay8 (F := Ideal))

/-- The hour's angles, ahead of the first layer of the hour's code. -/
theorem hour_sin (h : Fin 24) : k0_pay8 (F := Ideal) (ix2 h (0 : Fin 2)) = ((Real.sin (hourAngle h.val) : ℝ) : EReal) := by
  pointwise [k0_pay8]
  refine (congrArg Ideal.sin hourAngle_mul).trans (Ideal.sin_coe _)

theorem hour_cos (h : Fin 24) : k0_pay8 (F := Ideal) (ix2 h (1 : Fin 2)) = ((Real.cos (hourAngle h.val) : ℝ) : EReal) := by
  pointwise [k0_pay8]
  refine (congrArg Ideal.cos hourAngle_mul).trans (Ideal.cos_coe _)

theorem fused_hour (B : Blocks) (h : Fin 24) (k : Fin 128) : B.fused (ix2 (⟨h.val, by omega⟩ : Fin 50) k) = hourRow B.weights h k := by
  pointwise [Blocks.fused, k0_pay9, k0_pay2, k0_pay3, k0_pay4, k0_pay5, k0_pay6, k0_pay7]
  simp only [Fin.sum_univ_two, hour_sin, hour_cos]
  rfl

/-- A day's weekend mark. -/
theorem day_mark (d : Fin 7) :
    (FloatOps.sitofp (F := Ideal) FTy.f32 (BitVec.setWidth 32 (IntOp.cmpi CmpIPredicate.sge (BitVec.ofNat 32 d.val) 5#32)) : EReal) = weekend d := by
  have e : BitVec.setWidth 32 (IntOp.cmpi CmpIPredicate.sge (BitVec.ofNat 32 d.val) 5#32) = BitVec.ofNat 32 (if 5 ≤ d.val then 1 else 0) :=
    (by decide : ∀ d : Fin 7, BitVec.setWidth 32 (IntOp.cmpi CmpIPredicate.sge (BitVec.ofNat 32 d.val) 5#32) = BitVec.ofNat 32 (if 5 ≤ d.val then 1 else 0)) d
  rw [e, sitofp_small (by split <;> omega), weekend]
  split <;> simp

theorem fused_day (B : Blocks) (d : Fin 7) (k : Fin 128) : B.fused (ix2 (⟨24 + d.val, by omega⟩ : Fin 50) k) = dayRow B.weights d k := by
  pointwise [Blocks.fused, k0_pay9, k0_pay2, k0_pay3, k0_pay4, k0_pay5, k0_pay6, k0_pay7]
  simp (disch := omega) only [dif_pos, dif_neg, show 24 + d.val - 24 = d.val by omega, Fin.sum_univ_one, day_mark]
  unfold dayRow week
  congr 1

theorem fused_scale (B : Blocks) (a : Fin 3) (k : Fin 128) : B.fused (ix2 (⟨31 + a.val, by omega⟩ : Fin 50) k) = scaleRow B.weights a k := by
  pointwise [Blocks.fused, k0_pay9, k0_pay2, k0_pay3, k0_pay4, k0_pay5, k0_pay6, k0_pay7]
  simp (disch := omega) only [dif_pos, dif_neg, show 31 + a.val - 24 - 7 = a.val by omega]
  rfl

theorem fused_mag (B : Blocks) (a : Fin 5) (k : Fin 128) : B.fused (ix2 (⟨34 + a.val, by omega⟩ : Fin 50) k) = magRow B.weights a k := by
  pointwise [Blocks.fused, k0_pay9, k0_pay2, k0_pay3, k0_pay4, k0_pay5, k0_pay6, k0_pay7]
  simp (disch := omega) only [dif_pos, dif_neg, show 34 + a.val - 24 - 7 - 3 = a.val by omega]
  rfl

theorem fused_sin (B : Blocks) (k : Fin 128) : B.fused (ix2 (39 : Fin 50) k) = B.weights.w1 74 k := by
  pointwise [Blocks.fused, k0_pay9, k0_pay2, k0_pay3, k0_pay4, k0_pay5, k0_pay6, k0_pay7]
  rfl

theorem fused_cos (B : Blocks) (k : Fin 128) : B.fused (ix2 (40 : Fin 50) k) = B.weights.w1 75 k := by
  pointwise [Blocks.fused, k0_pay9, k0_pay2, k0_pay3, k0_pay4, k0_pay5, k0_pay6, k0_pay7]
  rfl

theorem fused_vel (B : Blocks) (a : Fin 8) (k : Fin 128) : B.fused (ix2 (⟨41 + a.val, by omega⟩ : Fin 50) k) = velRow B.weights a k := by
  pointwise [Blocks.fused, k0_pay9, k0_pay2, k0_pay3, k0_pay4, k0_pay5, k0_pay6, k0_pay7]
  simp (disch := omega) only [dif_pos, dif_neg, show 41 + a.val - 24 - 7 - 3 - 5 - 2 = a.val by omega]
  rfl

theorem fused_bias (B : Blocks) (k : Fin 128) : B.fused (ix2 (49 : Fin 50) k) = biasRow B.weights k := by
  pointwise [Blocks.fused, k0_pay9, k0_pay2, k0_pay3, k0_pay4, k0_pay5, k0_pay6, k0_pay7]
  rfl

end Cert.KernelIdeal.Gen

end
-- ==== Proof.Body.lean ====
/- The kernel's body at one token: its output is the encoder's. -/
module

public import proofs.«01_k».proof.Proof.Fused

@[expose] public section

set_option maxRecDepth 16384

noncomputable section

namespace Cert.KernelIdeal.Gen

open Idealize.ShloMosaic Idealize.ShloMosaic.TcCoe Idealize.SL.Sem
open Cert.Encoder

theorem named_day : (Named.named κ "inv24" 0x3D2AAAAB#32 : Ideal .f32) = ((1 / 24 : ℝ) : EReal) :=
  IdealRules.named_const.ideal_named_scalar _ _ _ _ rfl

theorem named_minute : (Named.named κ "inv60" 0x3C888889#32 : Ideal .f32) = ((1 / 60 : ℝ) : EReal) :=
  IdealRules.named_const.ideal_named_scalar _ _ _ _ rfl

theorem named_quarter : (Named.named κ "half_pi" 0x3FC90FDB#32 : Ideal .f32) = (((1 / 2) * Real.pi : ℝ) : EReal) :=
  IdealRules.named_const.ideal_named_scalar _ _ _ _ rfl

/-- The number of minutes in an hour, as the body holds it. -/
def sixty : Ideal .f32 := Scalar.ofBits .f32 0x42700000#32

theorem sixty_eq : sixty = ((60 : ℝ) : EReal) := lit_sixty

theorem clip_at (x : Vec Ideal S1x224x128 .f32) (p : Fin 224) (q : Fin 128) :
    k0_pay10 x (ix2 p q) = min ((24 : ℝ) : EReal) (max 0 (x (ix3 0 p q))) := by
  pointwise [k0_pay10]
  exact congrArg (fun e => min e _) lit_day

section
variable {dc : FVec Ideal S224x128 .f32} {p : Fin 224} {q : Fin 128} {r : ℝ}

theorem magnitude_at (hr : dc (ix2 p q) = (r : EReal)) (h0 : 0 ≤ r) : k0_pay12 dc (ix2 p q) = (magnitude r : EReal) := by
  pointwise [k0_pay12]
  rw [hr]
  exact (congrArg (fun e => Ideal.log1p ((r : EReal) * e)) named_day).trans (log1p_mul h0)

/-- The phase within the hour, as the body computes it. -/
theorem phase_at (hr : dc (ix2 p q) = (r : EReal)) :
    (dc (ix2 p q) * sixty - Ideal.ofBits .f32 0x42700000#32
        * Ideal.liftRound Int.floor (dc (ix2 p q) * sixty * (Named.named κ "inv60" 0x3C888889#32 : Ideal .f32))) * Ideal.ofBits .f32 0x3DD67750#32
      = (phase r : EReal) := by
  rw [hr, named_minute, sixty_eq, lit_sixty, lit_turn_sixty, minute_floor, phase_mul]

theorem sin_at (hr : dc (ix2 p q) = (r : EReal)) : k0_pay19 dc sixty (ix2 p q) = ((Real.sin (phase r) : ℝ) : EReal) := by
  pointwise [k0_pay19, k0_pay13, k0_pay11]
  exact (congrArg Ideal.sin (phase_at hr)).trans (Ideal.sin_coe _)

theorem cos_at (hr : dc (ix2 p q) = (r : EReal)) :
    k0_pay13 dc sixty (ix2 (⟨224 + p.val, by omega⟩ : Fin 448) q) = ((Real.cos (phase r) : ℝ) : EReal) := by
  pointwise [k0_pay13, k0_pay11]
  exact (congrArg₂ (fun a b => Ideal.sin (a + b)) (phase_at hr) named_quarter).trans (sin_quarter _)

end

section
variable (n : Fin 28672)

/-- The row and the lane of token `n` in a block of 224 rows of 128 lanes. -/
def rowOf (n : Fin 28672) : Fin 224 := ⟨n.val / 128, by omega⟩
def laneOf (n : Fin 28672) : Fin 128 := ⟨n.val % 128, by omega⟩

theorem class_at {dc : FVec Ideal S224x128 .f32} {r : ℝ} (hr : dc (ix2 (rowOf n) (laneOf n)) = (r : EReal)) :
    k0_pay17 dc sixty (ix2 0 n) = BitVec.ofNat 32 (scaleOf r).val := by
  pointwise [k0_pay17, k0_pay11]
  rw [show dc (ix2 (⟨n.val / 128, by omega⟩ : Fin 224) (⟨n.val % 128, by omega⟩ : Fin 128)) = (r : EReal) from hr, sixty_eq, lit_five, lit_sixty]
  exact scale_word

variable {x : Vec Ideal S1x224x128 .i32} {h d k : ℕ} (hh : h < 32) (hd : d < 8) (hk : k < 2 ^ 23)
  (hx : x (ix3 0 (rowOf n) (laneOf n)) = BitVec.ofNat 32 (k * 256 + d * 32 + h))
include hh hd hk hx

theorem hour_at : k0_pay15 (F := Ideal) x (ix2 0 n) = BitVec.ofNat 32 h := by
  pointwise [k0_pay15, k0_pay14]
  exact (congrArg (fun e => IntOp.andi e 31#32) hx).trans (word_hour hh hd hk)

theorem day_at : k0_pay16 (F := Ideal) x (ix2 0 n) = BitVec.ofNat 32 d := by
  pointwise [k0_pay16, k0_pay14]
  exact (congrArg (fun e => IntOp.andi (IntOp.shrsi .vector e 5#32) 7#32) hx).trans (word_day hh hd hk)

theorem velocity_at : k0_pay18 (F := Ideal) x (ix2 0 n) = (((k : ℝ) / 8388608 : ℝ) : EReal) := by
  pointwise [k0_pay18, k0_pay14]
  rw [show x (ix3 0 (⟨n.val / 128, by omega⟩ : Fin 224) (⟨n.val % 128, by omega⟩ : Fin 128)) = _ from hx, word_step hh hd hk]
  exact step_scaled hk

end

/-- The hidden layer before its rectifier, from the blocks of the words, of the times and of the weights. -/
def preHidden (B : Blocks) (x0 : Vec Ideal S1x224x128 .i32) (x1 : Vec Ideal S1x224x128 .f32) : FVec Ideal S28672x128 .f32 :=
  k0_pay20 B.fused (k0_pay12 (k0_pay10 x1)) (k0_pay13 (k0_pay10 x1) sixty) (k0_pay15 x0) (k0_pay16 x0) (k0_pay17 (k0_pay10 x1) sixty) (k0_pay18 x0)
    (k0_pay19 (k0_pay10 x1) sixty) B.x11 B.x12 B.x15 B.x16

set_option maxHeartbeats 1000000 in
theorem preHidden_at {B : Blocks} (hB : B.weights.Finite) {x0 : Vec Ideal S1x224x128 .i32} {x1 : Vec Ideal S1x224x128 .f32} (n : Fin 28672)
    {h : Fin 24} {d : Fin 7} {q : ℕ} {r : ℝ} (hq : q < 2 ^ 23) (h0 : 0 ≤ r)
    (hx : x0 (ix3 0 (rowOf n) (laneOf n)) = BitVec.ofNat 32 (q * 256 + d.val * 32 + h.val))
    (hr : min ((24 : ℝ) : EReal) (max 0 (x1 (ix3 0 (rowOf n) (laneOf n)))) = (r : EReal)) (k : Fin 128) :
    preHidden B x0 x1 (ix2 n k) = hidden B.weights (token h d r (((q : ℝ) / 8388608 : ℝ) : EReal)) k := by
  have hc := (clip_at x1 (rowOf n) (laneOf n)).trans hr
  have e15 := hour_at (n := n) (by omega) (by omega) hq hx
  have e16 := day_at (n := n) (by omega) (by omega) hq hx
  have e18 := velocity_at (n := n) (by omega) (by omega) hq hx
  have e17 := class_at n hc
  have e12 := magnitude_at hc h0
  have e19 := sin_at hc
  have e13 := cos_at hc
  unfold preHidden
  generalize k0_pay15 (F := Ideal) x0 = v15 at e15 ⊢
  generalize k0_pay16 (F := Ideal) x0 = v16 at e16 ⊢
  generalize k0_pay18 (F := Ideal) x0 = v18 at e18 ⊢
  generalize k0_pay17 (F := Ideal) (k0_pay10 x1) sixty = v17 at e17 ⊢
  generalize k0_pay12 (F := Ideal) (k0_pay10 x1) = v12 at e12 ⊢
  generalize k0_pay19 (F := Ideal) (k0_pay10 x1) sixty = v19 at e19 ⊢
  generalize k0_pay13 (F := Ideal) (k0_pay10 x1) sixty = v13 at e13 ⊢
  rw [← fused_eq_hidden hB (IsReal.coe _) (IsReal.coe _)]
  simp only [← fused_hour, ← fused_day, ← fused_scale, ← fused_mag, ← fused_vel, ← fused_sin, ← fused_cos, ← fused_bias]
  generalize B.fused = M
  pointwise [k0_pay20]
  rw [sum_rows]
  have n24 : ∀ x : ℕ, 24 + x - 24 = x := fun x => by omega
  have n31 : ∀ x : ℕ, 31 + x - 24 - 7 = x := fun x => by omega
  have n34 : ∀ x : ℕ, 34 + x - 24 - 7 - 3 = x := fun x => by omega
  have n41 : ∀ x : ℕ, 41 + x - 24 - 7 - 3 - 5 - 1 - 1 = x := fun x => by omega
  simp (disch := omega) only [dif_pos, dif_neg, n24, n31, n34, n41, one_mul]
  rw [pick_row_word (by norm_num) (fun i : Fin 24 => M (ix2 (⟨i.val, by omega⟩ : Fin 50) k)) h _ e15,
    pick_row_word (by norm_num) (fun i : Fin 7 => M (ix2 (⟨24 + i.val, by omega⟩ : Fin 50) k)) d _ e16,
    pick_row_word (by norm_num) (fun i : Fin 3 => M (ix2 (⟨31 + i.val, by omega⟩ : Fin 50) k)) (scaleOf r) _ e17,
    show v12 (ix2 (⟨n.val / 128, by omega⟩ : Fin 224) (⟨n.val % 128, by omega⟩ : Fin 128)) = _ from e12,
    show v19 (ix2 (⟨n.val / 128, by omega⟩ : Fin 224) (⟨n.val % 128, by omega⟩ : Fin 128)) = _ from e19,
    show v13 (ix2 (⟨224 + n.val / 128, by omega⟩ : Fin 448) (⟨n.val % 128, by omega⟩ : Fin 128)) = _ from e13, e18]
  rfl

/-- The body's output block, from the blocks of the words, of the times and of the weights. -/
def body (B : Blocks) (x0 : Vec Ideal S1x224x128 .i32) (x1 : Vec Ideal S1x224x128 .f32) : FVec Ideal S512x50x64 .f32 :=
  k0_pay1 (preHidden B x0 x1) (k0_pay21 (F := Ideal)) B.x21 B.x22

/-- The token of row `b` and position `s` in a block: the rows are padded to 56 positions. -/
def tokenOf (b : Fin 512) (s : Fin 50) : Fin 28672 := ⟨b.val * 56 + s.val, by omega⟩

theorem body_at {B : Blocks} (hB : B.weights.Finite) {x0 : Vec Ideal S1x224x128 .i32} {x1 : Vec Ideal S1x224x128 .f32} (b : Fin 512) (s : Fin 50)
    {h : Fin 24} {d : Fin 7} {q : ℕ} {r : ℝ} (hq : q < 2 ^ 23) (h0 : 0 ≤ r)
    (hx : x0 (ix3 0 (rowOf (tokenOf b s)) (laneOf (tokenOf b s))) = BitVec.ofNat 32 (q * 256 + d.val * 32 + h.val))
    (hr : min ((24 : ℝ) : EReal) (max 0 (x1 (ix3 0 (rowOf (tokenOf b s)) (laneOf (tokenOf b s))))) = (r : EReal)) (o : Fin 64) :
    body B x0 x1 (ix3 b s o) = encode B.weights (token h d r (((q : ℝ) / 8388608 : ℝ) : EReal)) o := by
  have hp := preHidden_at hB (tokenOf b s) hq h0 hx hr
  unfold body
  generalize preHidden B x0 x1 = H at hp ⊢
  pointwise [k0_pay1, k0_pay21]
  show ∑ k : Fin 128, max (H (ix2 (tokenOf b s) k)) 0 * B.x21 (ix2 k o) + B.x22 (ix2 0 o) = _
  simp only [hp]
  rfl

end Cert.KernelIdeal.Gen

end
-- ==== Proof.Entry.lean ====
/- What the arrays hold when the kernel starts: the words and times re-tiled in rows of 128 lanes, the biases as rows. -/
module

public import proofs.«01_k».proof.Proof.Body
public import Idealize.ShloMosaic.Lib.Claim

@[expose] public section

set_option maxRecDepth 16384

noncomputable section

namespace Cert.KernelIdeal.Gen

open Idealize.ShloMosaic Idealize.ShloMosaic.TcCoe Idealize.SL.Sem
open Cert.Encoder

variable (m : (ℓ : Loc nD τ sig) → Buf (Elt Ideal) ℓ) (c : Dev nD)

/-- The row of a whole array that row `b` of block `t` is. -/
def batchOf (t : Fin 8) (b : Fin 512) : Fin 4096 := ⟨t.val * 512 + b.val, by omega⟩

/-- The padded row's number and the position in it, from the row of lanes and the lane. -/
theorem row_eq (t : Fin 8) (b : Fin 512) (s : Fin 50) :
    (t.val * 28672 + (rowOf (tokenOf b s)).val * 128 + (laneOf (tokenOf b s)).val) / 56 = (batchOf t b).val := by
  show (t.val * 28672 + (b.val * 56 + s.val) / 128 * 128 + (b.val * 56 + s.val) % 128) / 56 = t.val * 512 + b.val
  omega

theorem position_eq (t : Fin 8) (b : Fin 512) (s : Fin 50) :
    (t.val * 28672 + (rowOf (tokenOf b s)).val * 128 + (laneOf (tokenOf b s)).val) % 56 = s.val := by
  show (t.val * 28672 + (b.val * 56 + s.val) / 128 * 128 + (b.val * 56 + s.val) % 128) % 56 = s.val
  omega

/-- Rows of 50 padded to 56 at the end, read at one of the first 50 positions. -/
theorem pad_row {α : Type} (x : S4096x50.Idx → α) (v : S_.Idx → α) (h : S4096x50.Pads ![0, 0] ![0, 6] ![0, 0] S4096x56) (hu : 0 < S_.numel)
    (i : Fin 4096) (j : Fin 56) (i' : Fin 4096) (s : Fin 50) (hi : i.val = i'.val) (hs : j.val = s.val) :
    pad S4096x56 ![0, 0] ![0, 6] ![0, 0] x v h hu (ix2 i j) = x (ix2 i' s) := by
  obtain rfl : i = i' := Fin.ext hi
  rw [pad_apply, dif_pos ?_]
  · refine congrArg x (funext fun a => Fin.ext ?_)
    match a with
    | ⟨0, _⟩ => show (i.val - 0) / (0 + 1) = i.val; omega
    | ⟨1, _⟩ => show (j.val - 0) / (0 + 1) = s.val; omega
  · intro a
    match a with
    | ⟨0, _⟩ => show 0 ≤ i.val ∧ (i.val - 0) % (0 + 1) = 0 ∧ (i.val - 0) / (0 + 1) < 4096; omega
    | ⟨1, _⟩ => show 0 ≤ j.val ∧ (j.val - 0) % (0 + 1) = 0 ∧ (j.val - 0) / (0 + 1) < 50; omega

theorem times_at (t : Fin 8) (b : Fin 512) (s : Fin 50) :
    (V m c main_v13 : FVec Ideal S8x224x128 .f32) (ix3 t (rowOf (tokenOf b s)) (laneOf (tokenOf b s)))
      = (m ((c.tc : Thread nD τ).loc main_arg2) : FVec Ideal S4096x50 .f32) (ix2 (batchOf t b) s) := by
  simp only [V, hostOps0, hostOps0_1, hostOps0_2, hostOps0_3, hostOps0_4, List.flatten_cons, List.flatten_nil, List.append_nil, List.cons_append, List.nil_append]
  entry_read
  pointwise []
  exact pad_row _ _ pads_S4096x50_S4096x56_000_060 h_S_ _ _ _ _ (row_eq t b s) (position_eq t b s)

theorem words_at (t : Fin 8) (b : Fin 512) (s : Fin 50) :
    (V m c main_v11 : IVec S8x224x128 32) (ix3 t (rowOf (tokenOf b s)) (laneOf (tokenOf b s)))
      = IntOp.ori (IntOp.ori ((m ((c.tc : Thread nD τ).loc main_arg0) : IVec S4096x50 32) (ix2 (batchOf t b) s))
            (IntOp.shli .host ((m ((c.tc : Thread nD τ).loc main_arg1) : IVec S4096x50 32) (ix2 (batchOf t b) s)) 5#32))
          (IntOp.shli .host (Ideal.fptosi 32 (Ideal.liftRound Int.floor
            (FloatOps.mulf (F := Ideal) (φ := .f32) ((m ((c.tc : Thread nD τ).loc main_arg3) : FVec Ideal S4096x50 .f32) (ix2 (batchOf t b) s)) (Ideal.ofBits .f32 0x4B000000#32)))) 8#32) := by
  simp only [V, hostOps0, hostOps0_1, hostOps0_2, hostOps0_3, hostOps0_4, List.flatten_cons, List.flatten_nil, List.append_nil, List.cons_append, List.nil_append]
  entry_read
  pointwise []
  exact pad_row _ _ pads_S4096x50_S4096x56_000_060 h_S_ _ _ _ _ (row_eq t b s) (position_eq t b s)

theorem cb1_at {i : Fin 16} :
    (V m c main_v14 : FVec Ideal S1x16 .f32) (ix2 0 i) = (m ((c.tc : Thread nD τ).loc main_arg6) : FVec Ideal S16 .f32) (ix1 i) := by
  simp only [V, hostOps0, hostOps0_1, hostOps0_2, hostOps0_3, hostOps0_4, List.flatten_cons, List.flatten_nil, List.append_nil, List.cons_append, List.nil_append]
  entry_read
  pointwise []

theorem cb2_at {i : Fin 16} :
    (V m c main_v15 : FVec Ideal S1x16 .f32) (ix2 0 i) = (m ((c.tc : Thread nD τ).loc main_arg8) : FVec Ideal S16 .f32) (ix1 i) := by
  simp only [V, hostOps0, hostOps0_1, hostOps0_2, hostOps0_3, hostOps0_4, List.flatten_cons, List.flatten_nil, List.append_nil, List.cons_append, List.nil_append]
  entry_read
  pointwise []

theorem kb_at {i : Fin 8} :
    (V m c main_v16 : FVec Ideal S1x8 .f32) (ix2 0 i) = (m ((c.tc : Thread nD τ).loc main_arg11) : FVec Ideal S8 .f32) (ix1 i) := by
  simp only [V, hostOps0, hostOps0_1, hostOps0_2, hostOps0_3, hostOps0_4, List.flatten_cons, List.flatten_nil, List.append_nil, List.cons_append, List.nil_append]
  entry_read
  pointwise []

theorem mb1_at {i : Fin 5} :
    (V m c main_v17 : FVec Ideal S1x5 .f32) (ix2 0 i) = (m ((c.tc : Thread nD τ).loc main_arg14) : FVec Ideal S5 .f32) (ix1 i) := by
  simp only [V, hostOps0, hostOps0_1, hostOps0_2, hostOps0_3, hostOps0_4, List.flatten_cons, List.flatten_nil, List.append_nil, List.cons_append, List.nil_append]
  entry_read
  pointwise []

theorem mb2_at {i : Fin 5} :
    (V m c main_v18 : FVec Ideal S1x5 .f32) (ix2 0 i) = (m ((c.tc : Thread nD τ).loc main_arg16) : FVec Ideal S5 .f32) (ix1 i) := by
  simp only [V, hostOps0, hostOps0_1, hostOps0_2, hostOps0_3, hostOps0_4, List.flatten_cons, List.flatten_nil, List.append_nil, List.cons_append, List.nil_append]
  entry_read
  pointwise []

theorem vb1_at {i : Fin 8} :
    (V m c main_v19 : FVec Ideal S1x8 .f32) (ix2 0 i) = (m ((c.tc : Thread nD τ).loc main_arg18) : FVec Ideal S8 .f32) (ix1 i) := by
  simp only [V, hostOps0, hostOps0_1, hostOps0_2, hostOps0_3, hostOps0_4, List.flatten_cons, List.flatten_nil, List.append_nil, List.cons_append, List.nil_append]
  entry_read
  pointwise []

theorem vb2_at {i : Fin 8} :
    (V m c main_v20 : FVec Ideal S1x8 .f32) (ix2 0 i) = (m ((c.tc : Thread nD τ).loc main_arg20) : FVec Ideal S8 .f32) (ix1 i) := by
  simp only [V, hostOps0, hostOps0_1, hostOps0_2, hostOps0_3, hostOps0_4, List.flatten_cons, List.flatten_nil, List.append_nil, List.cons_append, List.nil_append]
  entry_read
  pointwise []

theorem b1_at {i : Fin 128} :
    (V m c main_v21 : FVec Ideal S1x128 .f32) (ix2 0 i) = (m ((c.tc : Thread nD τ).loc main_arg22) : FVec Ideal S128 .f32) (ix1 i) := by
  simp only [V, hostOps0, hostOps0_1, hostOps0_2, hostOps0_3, hostOps0_4, List.flatten_cons, List.flatten_nil, List.append_nil, List.cons_append, List.nil_append]
  entry_read
  pointwise []

theorem b2_at {i : Fin 64} :
    (V m c main_v22 : FVec Ideal S1x64 .f32) (ix2 0 i) = (m ((c.tc : Thread nD τ).loc main_arg24) : FVec Ideal S64 .f32) (ix1 i) := by
  simp only [V, hostOps0, hostOps0_1, hostOps0_2, hostOps0_3, hostOps0_4, List.flatten_cons, List.flatten_nil, List.append_nil, List.cons_append, List.nil_append]
  entry_read
  pointwise []

end Cert.KernelIdeal.Gen

end
-- ==== Proof.Windows.lean ====
/- The blocks of the input windows at a point of the grid: the weights whole, the words and times one slab each. -/
module

public import proofs.«01_k».proof.Proof.Entry

@[expose] public section

set_option maxRecDepth 16384

noncomputable section

namespace Cert.KernelIdeal.Gen

open Idealize.ShloMosaic Idealize.ShloMosaic.TcCoe Idealize.SL.Sem
open Idealize.ShloMosaic.Pipeline (Dat)
open Cert.Encoder

variable (m : (ℓ : Loc nD τ sig) → Buf (Elt Ideal) ℓ) (c : Dev nD)

/-- The weights' blocks at a point of the grid. -/
def blocksAt (t : Fin cfg0.N) : Blocks where
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t
  x13 := iblk m c 13 t
  x14 := iblk m c 14 t
  x15 := iblk m c 15 t
  x16 := iblk m c 16 t
  x17 := iblk m c 17 t
  x18 := iblk m c 18 t
  x19 := iblk m c 19 t
  x20 := iblk m c 20 t
  x21 := iblk m c 21 t
  x22 := iblk m c 22 t

theorem idx_moving : ∀ t : Fin cfg0.N, win0_0.index t = ![t.val, 0, 0] ∧ win0_1.index t = ![t.val, 0, 0] ∧ win0_23.index t = ![t.val, 0, 0] :=
  (by decide +kernel : ∀ t : Fin grid0.N, _)

/-- The weights' windows stand still: each is its whole array at every point. -/
theorem idx_still : ∀ t : Fin cfg0.N, win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] ∧ win0_20.index t = ![0, 0] ∧ win0_21.index t = ![0, 0] ∧ win0_22.index t = ![0, 0] :=
  (by decide +kernel : ∀ t : Fin grid0.N, _)

theorem x2_at (t : Fin cfg0.N) : (iblk m c 2 t : FVec Ideal S24x32 .f32) = (m ((c.tc : Thread nD τ).loc main_arg4) : FVec Ideal S24x32 .f32) := by
  blk_ext! [iblk, V, idx_still t]

theorem x3_at (t : Fin cfg0.N) : (iblk m c 3 t : FVec Ideal S2x16 .f32) = (m ((c.tc : Thread nD τ).loc main_arg5) : FVec Ideal S2x16 .f32) := by
  blk_ext! [iblk, V, idx_still t]

theorem x4_at (t : Fin cfg0.N) : (iblk m c 4 t : FVec Ideal S1x16 .f32) = (V m c main_v14 : FVec Ideal S1x16 .f32) := by
  blk_ext! [iblk, idx_still t]

theorem x5_at (t : Fin cfg0.N) : (iblk m c 5 t : FVec Ideal S16x16 .f32) = (m ((c.tc : Thread nD τ).loc main_arg7) : FVec Ideal S16x16 .f32) := by
  blk_ext! [iblk, V, idx_still t]

theorem x6_at (t : Fin cfg0.N) : (iblk m c 6 t : FVec Ideal S1x16 .f32) = (V m c main_v15 : FVec Ideal S1x16 .f32) := by
  blk_ext! [iblk, idx_still t]

theorem x7_at (t : Fin cfg0.N) : (iblk m c 7 t : FVec Ideal S7x8 .f32) = (m ((c.tc : Thread nD τ).loc main_arg9) : FVec Ideal S7x8 .f32) := by
  blk_ext! [iblk, V, idx_still t]

theorem x8_at (t : Fin cfg0.N) : (iblk m c 8 t : FVec Ideal S1x8 .f32) = (m ((c.tc : Thread nD τ).loc main_arg10) : FVec Ideal S1x8 .f32) := by
  blk_ext! [iblk, V, idx_still t]

theorem x9_at (t : Fin cfg0.N) : (iblk m c 9 t : FVec Ideal S1x8 .f32) = (V m c main_v16 : FVec Ideal S1x8 .f32) := by
  blk_ext! [iblk, idx_still t]

theorem x10_at (t : Fin cfg0.N) : (iblk m c 10 t : FVec Ideal S3x5 .f32) = (m ((c.tc : Thread nD τ).loc main_arg12) : FVec Ideal S3x5 .f32) := by
  blk_ext! [iblk, V, idx_still t]

theorem x11_at (t : Fin cfg0.N) : (iblk m c 11 t : FVec Ideal S1x5 .f32) = (m ((c.tc : Thread nD τ).loc main_arg13) : FVec Ideal S1x5 .f32) := by
  blk_ext! [iblk, V, idx_still t]

theorem x12_at (t : Fin cfg0.N) : (iblk m c 12 t : FVec Ideal S1x5 .f32) = (V m c main_v17 : FVec Ideal S1x5 .f32) := by
  blk_ext! [iblk, idx_still t]

theorem x13_at (t : Fin cfg0.N) : (iblk m c 13 t : FVec Ideal S5x5 .f32) = (m ((c.tc : Thread nD τ).loc main_arg15) : FVec Ideal S5x5 .f32) := by
  blk_ext! [iblk, V, idx_still t]

theorem x14_at (t : Fin cfg0.N) : (iblk m c 14 t : FVec Ideal S1x5 .f32) = (V m c main_v18 : FVec Ideal S1x5 .f32) := by
  blk_ext! [iblk, idx_still t]

theorem x15_at (t : Fin cfg0.N) : (iblk m c 15 t : FVec Ideal S1x8 .f32) = (m ((c.tc : Thread nD τ).loc main_arg17) : FVec Ideal S1x8 .f32) := by
  blk_ext! [iblk, V, idx_still t]

theorem x16_at (t : Fin cfg0.N) : (iblk m c 16 t : FVec Ideal S1x8 .f32) = (V m c main_v19 : FVec Ideal S1x8 .f32) := by
  blk_ext! [iblk, idx_still t]

theorem x17_at (t : Fin cfg0.N) : (iblk m c 17 t : FVec Ideal S8x8 .f32) = (m ((c.tc : Thread nD τ).loc main_arg19) : FVec Ideal S8x8 .f32) := by
  blk_ext! [iblk, V, idx_still t]

theorem x18_at (t : Fin cfg0.N) : (iblk m c 18 t : FVec Ideal S1x8 .f32) = (V m c main_v20 : FVec Ideal S1x8 .f32) := by
  blk_ext! [iblk, idx_still t]

theorem x19_at (t : Fin cfg0.N) : (iblk m c 19 t : FVec Ideal S84x128 .f32) = (m ((c.tc : Thread nD τ).loc main_arg21) : FVec Ideal S84x128 .f32) := by
  blk_ext! [iblk, V, idx_still t]

theorem x20_at (t : Fin cfg0.N) : (iblk m c 20 t : FVec Ideal S1x128 .f32) = (V m c main_v21 : FVec Ideal S1x128 .f32) := by
  blk_ext! [iblk, idx_still t]

theorem x21_at (t : Fin cfg0.N) : (iblk m c 21 t : FVec Ideal S128x64 .f32) = (m ((c.tc : Thread nD τ).loc main_arg23) : FVec Ideal S128x64 .f32) := by
  blk_ext! [iblk, V, idx_still t]

theorem x22_at (t : Fin cfg0.N) : (iblk m c 22 t : FVec Ideal S1x64 .f32) = (V m c main_v22 : FVec Ideal S1x64 .f32) := by
  blk_ext! [iblk, idx_still t]

theorem x0_at (t : Fin cfg0.N) (p : Fin 224) (q : Fin 128) :
    (iblk m c 0 t : IVec S1x224x128 32) (ix3 0 p q) = (V m c main_v11 : IVec S8x224x128 32) (ix3 (⟨t.val, t.isLt⟩ : Fin 8) p q) := by
  blk_ext [iblk, idx_moving t]

theorem x1_at (t : Fin cfg0.N) (p : Fin 224) (q : Fin 128) :
    (iblk m c 1 t : FVec Ideal S1x224x128 .f32) (ix3 0 p q) = (V m c main_v13 : FVec Ideal S8x224x128 .f32) (ix3 (⟨t.val, t.isLt⟩ : Fin 8) p q) := by
  blk_ext [iblk, idx_moving t]

/-- The encoder's weights among the kernel's arguments. -/
def argWeights : Weights where
  hour h x := (m ((c.tc : Thread nD τ).loc main_arg4) : FVec Ideal S24x32 .f32) (ix2 h x)
  cw1 i j := (m ((c.tc : Thread nD τ).loc main_arg5) : FVec Ideal S2x16 .f32) (ix2 i j)
  cb1 j := (m ((c.tc : Thread nD τ).loc main_arg6) : FVec Ideal S16 .f32) (ix1 j)
  cw2 j l := (m ((c.tc : Thread nD τ).loc main_arg7) : FVec Ideal S16x16 .f32) (ix2 j l)
  cb2 l := (m ((c.tc : Thread nD τ).loc main_arg8) : FVec Ideal S16 .f32) (ix1 l)
  day d x := (m ((c.tc : Thread nD τ).loc main_arg9) : FVec Ideal S7x8 .f32) (ix2 d x)
  kw x := (m ((c.tc : Thread nD τ).loc main_arg10) : FVec Ideal S1x8 .f32) (ix2 0 x)
  kb x := (m ((c.tc : Thread nD τ).loc main_arg11) : FVec Ideal S8 .f32) (ix1 x)
  scale s x := (m ((c.tc : Thread nD τ).loc main_arg12) : FVec Ideal S3x5 .f32) (ix2 s x)
  mw1 j := (m ((c.tc : Thread nD τ).loc main_arg13) : FVec Ideal S1x5 .f32) (ix2 0 j)
  mb1 j := (m ((c.tc : Thread nD τ).loc main_arg14) : FVec Ideal S5 .f32) (ix1 j)
  mw2 j l := (m ((c.tc : Thread nD τ).loc main_arg15) : FVec Ideal S5x5 .f32) (ix2 j l)
  mb2 l := (m ((c.tc : Thread nD τ).loc main_arg16) : FVec Ideal S5 .f32) (ix1 l)
  vw1 j := (m ((c.tc : Thread nD τ).loc main_arg17) : FVec Ideal S1x8 .f32) (ix2 0 j)
  vb1 j := (m ((c.tc : Thread nD τ).loc main_arg18) : FVec Ideal S8 .f32) (ix1 j)
  vw2 j l := (m ((c.tc : Thread nD τ).loc main_arg19) : FVec Ideal S8x8 .f32) (ix2 j l)
  vb2 l := (m ((c.tc : Thread nD τ).loc main_arg20) : FVec Ideal S8 .f32) (ix1 l)
  w1 x k := (m ((c.tc : Thread nD τ).loc main_arg21) : FVec Ideal S84x128 .f32) (ix2 x k)
  b1 k := (m ((c.tc : Thread nD τ).loc main_arg22) : FVec Ideal S128 .f32) (ix1 k)
  w2 k o := (m ((c.tc : Thread nD τ).loc main_arg23) : FVec Ideal S128x64 .f32) (ix2 k o)
  b2 o := (m ((c.tc : Thread nD τ).loc main_arg24) : FVec Ideal S64 .f32) (ix1 o)

set_option maxHeartbeats 4000000 in
/-- The weights in the blocks of any point are those of the arguments. -/
theorem weights_at (t : Fin cfg0.N) : (blocksAt m c t).weights = argWeights m c :=
  Weights.ext (funext₂ fun i j => congrFun (x2_at m c t) (ix2 i j))
    (funext₂ fun i j => congrFun (x3_at m c t) (ix2 i j))
    (funext fun j => (congrFun (x4_at m c t) (ix2 0 j)).trans (cb1_at m c))
    (funext₂ fun i j => congrFun (x5_at m c t) (ix2 i j))
    (funext fun j => (congrFun (x6_at m c t) (ix2 0 j)).trans (cb2_at m c))
    (funext₂ fun i j => congrFun (x7_at m c t) (ix2 i j))
    (funext fun j => congrFun (x8_at m c t) (ix2 0 j))
    (funext fun j => (congrFun (x9_at m c t) (ix2 0 j)).trans (kb_at m c))
    (funext₂ fun i j => congrFun (x10_at m c t) (ix2 i j))
    (funext fun j => congrFun (x11_at m c t) (ix2 0 j))
    (funext fun j => (congrFun (x12_at m c t) (ix2 0 j)).trans (mb1_at m c))
    (funext₂ fun i j => congrFun (x13_at m c t) (ix2 i j))
    (funext fun j => (congrFun (x14_at m c t) (ix2 0 j)).trans (mb2_at m c))
    (funext fun j => congrFun (x15_at m c t) (ix2 0 j))
    (funext fun j => (congrFun (x16_at m c t) (ix2 0 j)).trans (vb1_at m c))
    (funext₂ fun i j => congrFun (x17_at m c t) (ix2 i j))
    (funext fun j => (congrFun (x18_at m c t) (ix2 0 j)).trans (vb2_at m c))
    (funext₂ fun i j => congrFun (x19_at m c t) (ix2 i j))
    (funext fun j => (congrFun (x20_at m c t) (ix2 0 j)).trans (b1_at m c))
    (funext₂ fun i j => congrFun (x21_at m c t) (ix2 i j))
    (funext fun j => (congrFun (x22_at m c t) (ix2 0 j)).trans (b2_at m c))

end Cert.KernelIdeal.Gen

end
-- ==== Proof.Drawn.lean ====
/- What the precondition says of the arguments: hours, days and velocities in their ranges, and the multiplied weights real. -/
module

public import proofs.«01_k».proof.Proof.Words
public import proofs.«01_k».proof.Defs
public import proofs.«01_k».proof.Proof.Gen.Pre_drawn_inputs
public import Idealize.ShloMosaic.Lib.Pipeline.ValueKit

@[expose] public section

noncomputable section

namespace Cert.Encoder

open Idealize.ShloMosaic Idealize.ShloMosaic.TcCoe Idealize.SL.Sem

/-- Two conditions that hold together hold each. -/
theorem both_of_andi {a b : BitVec 1} (h : IntOp.andi a b = 1#1) : a = 1#1 ∧ b = 1#1 :=
  (by decide : ∀ a b : BitVec 1, IntOp.andi a b = 1#1 → a = 1#1 ∧ b = 1#1) a b h

theorem of_ofBool {p : Prop} [Decidable p] (h : BitVec.ofBool (decide p) = 1#1) : p := by
  by_contra hn
  rw [decide_eq_false hn] at h
  exact absurd h (by decide)

/-- A word that is not below zero and is below `n`, both compared with sign, is one of the numbers below `n`. -/
theorem word_of_range {n : ℕ} {x : BitVec 32} (hn : n ≤ 1000)
    (h : IntOp.andi (IntOp.cmpi .sge x 0#32) (IntOp.cmpi .slt x (BitVec.ofNat 32 n)) = 1#1) : ∃ i : Fin n, x = BitVec.ofNat 32 i.val := by
  obtain ⟨ha, hb⟩ := both_of_andi h
  have h0 : (0#32).toInt ≤ x.toInt := of_ofBool ha
  have h1 : x.toInt < (BitVec.ofNat 32 n).toInt := of_ofBool hb
  rw [BitVec.toInt_ofNat', Int.bmod_eq_of_le (by omega) (by omega)] at h1
  exact word_below hn (by simpa using h0) h1

theorem lit_infinity : Ideal.ofBits .f32 0x7F800000#32 = ⊤ := by simp [Ideal.ofBits, Ideal.ieee]

/-- A number whose absolute value compares below infinity is a real number. -/
theorem real_of_below {x : EReal} [Decidable (max x (-x) < Ideal.ofBits .f32 0x7F800000#32)]
    (h : BitVec.ofBool (decide (max x (-x) < Ideal.ofBits .f32 0x7F800000#32)) = 1#1) : IsReal x :=
  isReal_of_abs_lt (lit_infinity ▸ of_ofBool h)

/-- A velocity on the grid, by the three comparisons that say so. -/
theorem velocity_of_marks {v : EReal} (h0 : Ideal.cmp .oeq (Ideal.liftRound Int.floor (v * Ideal.ofBits .f32 0x4B000000#32)) (v * Ideal.ofBits .f32 0x4B000000#32) = 1#1)
    (h1 : Ideal.cmp .oge v (Ideal.ofBits .f32 0x00000000#32) = 1#1) (h2 : Ideal.cmp .olt v (Ideal.ofBits .f32 0x3F800000#32) = 1#1) :
    ∃ q : ℕ, q < 2 ^ 23 ∧ v = (((q : ℝ) / 8388608 : ℝ) : EReal)
      ∧ Ideal.fptosi 32 (Ideal.liftRound Int.floor ((((q : ℝ) / 8388608 : ℝ) : EReal) * Ideal.ofBits .f32 0x4B000000#32)) = BitVec.ofNat 32 q := by
  have hw : Ideal.liftRound Int.floor (v * Ideal.ofBits .f32 0x4B000000#32) = v * Ideal.ofBits .f32 0x4B000000#32 := of_ofBool h0
  have hz : Ideal.ofBits .f32 0x00000000#32 ≤ v := of_ofBool h1
  have hu : v < Ideal.ofBits .f32 0x3F800000#32 := of_ofBool h2
  rw [lit_zero] at hz
  rw [lit_one] at hu
  obtain ⟨q, hq, e, hw'⟩ := velocity_step hw hz hu
  exact ⟨q, hq, e, e ▸ hw'⟩

open Cert.KernelIdeal in
/-- What the precondition gives on one device. -/
theorem drawn [hf : Cert.Pre_drawn_inputs.Facts] {m : (ℓ : Loc nD τ sig) → Buf (Elt Ideal) ℓ} (hp : Pre_KernelIdeal_drawn_inputs m) (c : Dev nD) :
    (∀ b s, ∃ h : Fin 24, (m ((c.tc : Thread nD τ).loc main_arg0) : IVec S4096x50 32) (ix2 b s) = BitVec.ofNat 32 h.val)
    ∧ (∀ b s, ∃ d : Fin 7, (m ((c.tc : Thread nD τ).loc main_arg1) : IVec S4096x50 32) (ix2 b s) = BitVec.ofNat 32 d.val)
    ∧ (∀ b s, ∃ q : ℕ, q < 2 ^ 23 ∧ (m ((c.tc : Thread nD τ).loc main_arg3) : FVec Ideal S4096x50 .f32) (ix2 b s) = (((q : ℝ) / 8388608 : ℝ) : EReal)
        ∧ Ideal.fptosi 32 (Ideal.liftRound Int.floor ((((q : ℝ) / 8388608 : ℝ) : EReal) * Ideal.ofBits .f32 0x4B000000#32)) = BitVec.ofNat 32 q)
    ∧ (∀ i, IsReal ((m ((c.tc : Thread nD τ).loc main_arg13) : FVec Ideal S1x5 .f32) i))
    ∧ (∀ i, IsReal ((m ((c.tc : Thread nD τ).loc main_arg14) : FVec Ideal S5 .f32) i))
    ∧ (∀ i, IsReal ((m ((c.tc : Thread nD τ).loc main_arg15) : FVec Ideal S5x5 .f32) i))
    ∧ (∀ i, IsReal ((m ((c.tc : Thread nD τ).loc main_arg17) : FVec Ideal S1x8 .f32) i))
    ∧ (∀ i, IsReal ((m ((c.tc : Thread nD τ).loc main_arg18) : FVec Ideal S8 .f32) i))
    ∧ (∀ i, IsReal ((m ((c.tc : Thread nD τ).loc main_arg19) : FVec Ideal S8x8 .f32) i))
    ∧ (∀ i, IsReal ((m ((c.tc : Thread nD τ).loc main_arg21) : FVec Ideal S84x128 .f32) i)) := by
  obtain ⟨p0, p1, p2, p3, p4, p5, p6, p7, p8, p9⟩ := hp c
  refine ⟨fun b s => word_of_range (by norm_num) (congrFun p0 (ix2 b s)), fun b s => word_of_range (by norm_num) (congrFun p1 (ix2 b s)),
    fun b s => ?_, fun i => real_of_below (congrFun p3 i), fun i => real_of_below (congrFun p4 i), fun i => real_of_below (congrFun p5 i),
    fun i => real_of_below (congrFun p6 i), fun i => real_of_below (congrFun p7 i), fun i => real_of_below (congrFun p8 i),
    fun i => real_of_below (congrFun p9 i)⟩
  obtain ⟨h01, h2⟩ := both_of_andi (congrFun p2 (ix2 b s))
  obtain ⟨h0, h1⟩ := both_of_andi h01
  exact velocity_of_marks h0 h1 h2

end Cert.Encoder

end
-- ==== Proof.Value.lean ====
/- The kernel's output array after its run: at every place the encoder's output for that place's token. -/
module

public import proofs.«01_k».proof.Proof.Windows
public import proofs.«01_k».proof.Proof.Drawn

@[expose] public section

set_option maxRecDepth 16384

noncomputable section

namespace Cert.KernelIdeal.Gen

open Idealize.ShloMosaic Idealize.ShloMosaic.TcCoe Idealize.SL.Sem
open Idealize.ShloMosaic.Pipeline (Dat)
open Cert.Encoder

variable (m : (ℓ : Loc nD τ sig) → Buf (Elt Ideal) ℓ) (c : Dev nD)

theorem times_eq (x0 : Vec Ideal S1x224x128 .i32) (x1 : Vec Ideal S1x224x128 .f32) (x2 : Vec Ideal S24x32 .f32) (x3 : Vec Ideal S2x16 .f32) (x4 : Vec Ideal S1x16 .f32) (x5 : Vec Ideal S16x16 .f32) (x6 : Vec Ideal S1x16 .f32) (x7 : Vec Ideal S7x8 .f32) (x8 : Vec Ideal S1x8 .f32) (x9 : Vec Ideal S1x8 .f32) (x10 : Vec Ideal S3x5 .f32) (x11 : Vec Ideal S1x5 .f32) (x12 : Vec Ideal S1x5 .f32) (x13 : Vec Ideal S5x5 .f32) (x14 : Vec Ideal S1x5 .f32) (x15 : Vec Ideal S1x8 .f32) (x16 : Vec Ideal S1x8 .f32) (x17 : Vec Ideal S8x8 .f32) (x18 : Vec Ideal S1x8 .f32) (x19 : Vec Ideal S84x128 .f32) (x20 : Vec Ideal S1x128 .f32) (x21 : Vec Ideal S128x64 .f32) (x22 : Vec Ideal S1x64 .f32) :
    k0_pay22 x0 x1 x2 x3 x4 x5 x6 x7 x8 x9 x10 x11 x12 x13 x14 x15 x16 x17 x18 x19 x20 x21 x22 = k0_pay10 x1 :=
  congrArg k0_pay10 (View.ld_unit_lit inb_S1x224x128_S1x224x128_0_0_0 x1 (by decide))

set_option maxHeartbeats 2000000 in
/-- What the body leaves in its output block. -/
theorem out_eq (x0 : Vec Ideal S1x224x128 .i32) (x1 : Vec Ideal S1x224x128 .f32) (x2 : Vec Ideal S24x32 .f32) (x3 : Vec Ideal S2x16 .f32) (x4 : Vec Ideal S1x16 .f32) (x5 : Vec Ideal S16x16 .f32) (x6 : Vec Ideal S1x16 .f32) (x7 : Vec Ideal S7x8 .f32) (x8 : Vec Ideal S1x8 .f32) (x9 : Vec Ideal S1x8 .f32) (x10 : Vec Ideal S3x5 .f32) (x11 : Vec Ideal S1x5 .f32) (x12 : Vec Ideal S1x5 .f32) (x13 : Vec Ideal S5x5 .f32) (x14 : Vec Ideal S1x5 .f32) (x15 : Vec Ideal S1x8 .f32) (x16 : Vec Ideal S1x8 .f32) (x17 : Vec Ideal S8x8 .f32) (x18 : Vec Ideal S1x8 .f32) (x19 : Vec Ideal S84x128 .f32) (x20 : Vec Ideal S1x128 .f32) (x21 : Vec Ideal S128x64 .f32) (x22 : Vec Ideal S1x64 .f32) :
    out0_23 x0 x1 x2 x3 x4 x5 x6 x7 x8 x9 x10 x11 x12 x13 x14 x15 x16 x17 x18 x19 x20 x21 x22 = body ⟨x2, x3, x4, x5, x6, x7, x8, x9, x10, x11, x12, x13, x14, x15, x16, x17, x18, x19, x20, x21, x22⟩ x0 x1 := by
  funext y
  frame_out
  rw [times_eq]
  rfl

/-- The output array is any array that holds, at every place, the encoder's output for that place's token. -/
theorem final [hf : Cert.Pre_drawn_inputs.Facts] (hp : Pre_KernelIdeal_drawn_inputs m) (X : FVec Ideal S4096x50x64 .f32)
    (hX : ∀ (b : Fin 4096) (s : Fin 50) (h : Fin 24) (d : Fin 7) (r : ℝ) (v : EReal), 0 ≤ r →
      (m ((c.tc : Thread nD τ).loc main_arg0) : IVec S4096x50 32) (ix2 b s) = BitVec.ofNat 32 h.val →
      (m ((c.tc : Thread nD τ).loc main_arg1) : IVec S4096x50 32) (ix2 b s) = BitVec.ofNat 32 d.val →
      min ((24 : ℝ) : EReal) (max 0 ((m ((c.tc : Thread nD τ).loc main_arg2) : FVec Ideal S4096x50 .f32) (ix2 b s))) = (r : EReal) →
      (m ((c.tc : Thread nD τ).loc main_arg3) : FVec Ideal S4096x50 .f32) (ix2 b s) = v →
      ∀ o : Fin 64, X (ix3 b s o) = encode (argWeights m c) (token h d r v) o) :
    (dats m 0 c).arrAt 23 cfg0.N = X := by
  obtain ⟨hh, hd, hq, f13, f14, f15, f17, f18, f19, f21⟩ := drawn hp c
  have hW : (argWeights m c).Finite :=
    ⟨fun j => f13 _, fun j => f14 _, fun j l => f15 _, fun j => f17 _, fun j => f18 _, fun j l => f19 _, fun j k => f21 _⟩
  refine (dats m 0 c).arrAt_eq_of_covers 23 _ (by decide +kernel) fun t _ y => ?_
  blk_simp
  rw [after0_23, out_eq]
  obtain ⟨b, s, o, rfl⟩ : ∃ (b : Fin 512) (s : Fin 50) (o : Fin 64), y = ix3 b s o := ⟨y 0, y 1, y 2, eq_ix3 y⟩
  have ey : (win0_23.blk t).view.emb (ix3 b s o) = ix3 (batchOf (⟨t.val, t.isLt⟩ : Fin 8) b) s o := by
    blk_ext [idx_moving t, batchOf]
  obtain ⟨h, eh⟩ := hh (batchOf (⟨t.val, t.isLt⟩ : Fin 8) b) s
  obtain ⟨d, ed⟩ := hd (batchOf (⟨t.val, t.isLt⟩ : Fin 8) b) s
  obtain ⟨q, hq, ev, eq⟩ := hq (batchOf (⟨t.val, t.isLt⟩ : Fin 8) b) s
  obtain ⟨r, h0, _, er⟩ := clip_real ((m ((c.tc : Thread nD τ).loc main_arg2) : FVec Ideal S4096x50 .f32) (ix2 (batchOf (⟨t.val, t.isLt⟩ : Fin 8) b) s))
  have e1 := (x1_at m c t (rowOf (tokenOf b s)) (laneOf (tokenOf b s))).trans (times_at m c (⟨t.val, t.isLt⟩ : Fin 8) b s)
  have e0 := (x0_at m c t (rowOf (tokenOf b s)) (laneOf (tokenOf b s))).trans (words_at m c (⟨t.val, t.isLt⟩ : Fin 8) b s)
  rw [eh, ed, ev] at e0
  have e0' := e0.trans ((congrArg (fun w => IntOp.ori _ (IntOp.shli .host w 8#32)) eq).trans (word_join (by omega) (by omega) hq))
  have hb := body_at (B := blocksAt m c t) ((weights_at m c t).symm ▸ hW) b s hq h0 e0' ((congrArg (fun w : EReal => min ((24 : ℝ) : EReal) (max 0 w)) e1).trans er) o
  rw [weights_at] at hb
  refine Eq.trans hb ?_
  rw [ey]
  exact (hX _ s h d r _ h0 eh ed er ev o).symm

end Cert.KernelIdeal.Gen

end
-- ==== Proof.Gather.lean ====
/- A table's rows gathered at a rank-2 array of row numbers. -/
module

public import Idealize.ShloMosaic.Lib.ValueIdxCore

@[expose] public section

noncomputable section

namespace Cert.Encoder

open Idealize.ShloMosaic Idealize.ShloMosaic.ValueIdx

variable {N C P Q : ℕ}

/-- The dimension numbers of a lookup of whole rows of `C` entries at `P` by `Q` row numbers. -/
def rowDims (N C P Q : ℕ) (wf : GatherDims.WF ⟨2, ![N, C]⟩ ⟨3, ![P, Q, 1]⟩ ⟨3, ![P, Q, C]⟩ [2] [0] [] [0] [] 2 ![1, C]) :
    GatherDims ⟨2, ![N, C]⟩ ⟨3, ![P, Q, 1]⟩ ⟨3, ![P, Q, C]⟩ where
  offsetDims := [2]
  collapsedSliceDims := [0]
  operandBatchingDims := []
  startIndicesBatchingDims := []
  startIndexMap := [0]
  indexVectorDim := 2
  sliceSizes := ![1, C]
  wf := wf

/-- The lookup at one place: the row whose number stands there. -/
theorem gather_row {α : Type} (hN : N ≤ 1000)
    (wf : GatherDims.WF ⟨2, ![N, C]⟩ ⟨3, ![P, Q, 1]⟩ ⟨3, ![P, Q, C]⟩ [2] [0] [] [0] [] 2 ![1, C])
    (x : (⟨2, ![N, C]⟩ : Shape).Idx → α) (idx : IVec ⟨3, ![P, Q, 1]⟩ 32) (p : Fin P) (q : Fin Q) (k : Fin C)
    (h : Fin N) (hi : idx (ix3 p q (0 : Fin 1)) = BitVec.ofNat 32 h.val) :
    Host.gather (rowDims N C P Q wf) x idx (ix3 p q k) = x (ix2 h k) := by
  unfold Host.gather
  congr 1
  funext a
  refine Fin.ext ?_
  show (rowDims N C P Q wf).start (ix3 p q k) idx a + (rowDims N C P Q wf).batchCoord (ix3 p q k) a
      + (rowDims N C P Q wf).offCoord (ix3 p q k) a = _
  have ha : a = (0 : Fin 2) ∨ a = (1 : Fin 2) := by
    match a with
    | ⟨0, _⟩ => exact Or.inl rfl
    | ⟨1, _⟩ => exact Or.inr rfl
  rcases ha with rfl | rfl
  · rw [GatherDims.batchCoord_eq_zero _ _ _ (fun hb => by simp [rowDims] at hb),
      GatherDims.offCoord_eq_zero _ _ _ (fun hb => ((GatherDims.mem_sKept _ _).mp hb).1 (List.mem_singleton.mpr rfl))]
    simp only [Nat.add_zero]
    unfold GatherDims.start
    rw [dif_pos (show (0 : Fin 2) ∈ (rowDims N C P Q wf).startIndexMap from List.mem_singleton.mpr rfl)]
    have hs : (rowDims N C P Q wf).siIdx (ix3 p q k) ⟨List.idxOf (0 : Fin 2) (rowDims N C P Q wf).startIndexMap,
        List.idxOf_lt_length_iff.2 (List.mem_singleton.mpr rfl)⟩ = ix3 p q (0 : Fin 1) := by
      funext b; refine Fin.ext ?_
      match b with
      | ⟨0, _⟩ => rfl
      | ⟨1, _⟩ => rfl
      | ⟨2, _⟩ => rfl
    rw [hs, hi]
    show min (BitVec.ofNat 32 h.val).toInt.toNat (N - 1) = h.val
    rw [BitVec.toInt_ofNat', Int.bmod_eq_of_le (by omega) (by omega)]
    omega
  · rw [GatherDims.batchCoord_eq_zero _ _ _ (fun hb => by simp [rowDims] at hb)]
    have hst : (rowDims N C P Q wf).start (ix3 p q k) idx (1 : Fin 2) = 0 := by
      unfold GatherDims.start
      rw [dif_neg (show ¬ (1 : Fin 2) ∈ (rowDims N C P Q wf).startIndexMap by simp [rowDims])]
    rw [hst]
    simp only [Nat.zero_add, Nat.add_zero]
    unfold GatherDims.offCoord
    rw [dif_pos ((GatherDims.mem_sKept _ _).mpr ⟨by simp [rowDims], by simp [rowDims]⟩)]
    rfl

end Cert.Encoder

end
-- ==== Proof.Reference.lean ====
/- The reference's result at one token: it is the encoder's. -/
module

public import proofs.«01_k».proof.Proof.Words
public import proofs.«01_k».proof.Proof.Gather
public import proofs.«01_k».proof.Proof.Gen.ReferenceIdeal
public import proofs.«01_k».proof.Proof.Gen.ReferenceIdeal.Run
public import Idealize.ShloMosaic.Lib.Pipeline.ValueKit

@[expose] public section

set_option maxRecDepth 16384

noncomputable section

namespace Cert.ReferenceIdeal.Value

open Idealize.ShloMosaic Idealize.ShloMosaic.TcCoe Idealize.SL.Sem
open Cert.ReferenceIdeal.Gen
open Cert.Encoder

variable (m : (ℓ : Loc nD τ sig) → Buf (Elt Ideal) ℓ) (c : Dev nD)

/-- The encoder's weights among the reference's arguments. -/
def weights : Weights where
  hour h x := (m ((c.tc : Thread nD τ).loc main_arg4) : FVec Ideal S24x32 .f32) (ix2 h x)
  cw1 i j := (m ((c.tc : Thread nD τ).loc main_arg5) : FVec Ideal S2x16 .f32) (ix2 i j)
  cb1 j := (m ((c.tc : Thread nD τ).loc main_arg6) : FVec Ideal S16 .f32) (ix1 j)
  cw2 j l := (m ((c.tc : Thread nD τ).loc main_arg7) : FVec Ideal S16x16 .f32) (ix2 j l)
  cb2 l := (m ((c.tc : Thread nD τ).loc main_arg8) : FVec Ideal S16 .f32) (ix1 l)
  day d x := (m ((c.tc : Thread nD τ).loc main_arg9) : FVec Ideal S7x8 .f32) (ix2 d x)
  kw x := (m ((c.tc : Thread nD τ).loc main_arg10) : FVec Ideal S1x8 .f32) (ix2 0 x)
  kb x := (m ((c.tc : Thread nD τ).loc main_arg11) : FVec Ideal S8 .f32) (ix1 x)
  scale s x := (m ((c.tc : Thread nD τ).loc main_arg12) : FVec Ideal S3x5 .f32) (ix2 s x)
  mw1 j := (m ((c.tc : Thread nD τ).loc main_arg13) : FVec Ideal S1x5 .f32) (ix2 0 j)
  mb1 j := (m ((c.tc : Thread nD τ).loc main_arg14) : FVec Ideal S5 .f32) (ix1 j)
  mw2 j l := (m ((c.tc : Thread nD τ).loc main_arg15) : FVec Ideal S5x5 .f32) (ix2 j l)
  mb2 l := (m ((c.tc : Thread nD τ).loc main_arg16) : FVec Ideal S5 .f32) (ix1 l)
  vw1 j := (m ((c.tc : Thread nD τ).loc main_arg17) : FVec Ideal S1x8 .f32) (ix2 0 j)
  vb1 j := (m ((c.tc : Thread nD τ).loc main_arg18) : FVec Ideal S8 .f32) (ix1 j)
  vw2 j l := (m ((c.tc : Thread nD τ).loc main_arg19) : FVec Ideal S8x8 .f32) (ix2 j l)
  vb2 l := (m ((c.tc : Thread nD τ).loc main_arg20) : FVec Ideal S8 .f32) (ix1 l)
  w1 x k := (m ((c.tc : Thread nD τ).loc main_arg21) : FVec Ideal S84x128 .f32) (ix2 x k)
  b1 k := (m ((c.tc : Thread nD τ).loc main_arg22) : FVec Ideal S128 .f32) (ix1 k)
  w2 k o := (m ((c.tc : Thread nD τ).loc main_arg23) : FVec Ideal S128x64 .f32) (ix2 k o)
  b2 o := (m ((c.tc : Thread nD τ).loc main_arg24) : FVec Ideal S64 .f32) (ix1 o)

/-- A day's weekend mark. -/
theorem day_mark (d : Fin 7) :
    (FloatOps.uitofp (F := Ideal) FTy.f32 (IntOp.cmpi CmpIPredicate.sge (BitVec.ofNat 32 d.val) 5#32) : EReal) = weekend d := by
  have e : (IntOp.cmpi CmpIPredicate.sge (BitVec.ofNat 32 d.val) 5#32).toNat = if 5 ≤ d.val then 1 else 0 :=
    (by decide : ∀ d : Fin 7, (IntOp.cmpi CmpIPredicate.sge (BitVec.ofNat 32 d.val) 5#32).toNat = if 5 ≤ d.val then 1 else 0) d
  show (((IntOp.cmpi CmpIPredicate.sge (BitVec.ofNat 32 d.val) 5#32).toNat : ℝ) : EReal) = weekend d
  rw [e, weekend]
  split <;> simp

set_option maxHeartbeats 2000000 in
theorem result_at (b : Fin 4096) (s : Fin 50) {h : Fin 24} {d : Fin 7} {r : ℝ} {v : EReal} (h0 : 0 ≤ r)
    (hh : (m ((c.tc : Thread nD τ).loc main_arg0) : IVec S4096x50 32) (ix2 b s) = BitVec.ofNat 32 h.val)
    (hd : (m ((c.tc : Thread nD τ).loc main_arg1) : IVec S4096x50 32) (ix2 b s) = BitVec.ofNat 32 d.val)
    (hr : min ((24 : ℝ) : EReal) (max 0 ((m ((c.tc : Thread nD τ).loc main_arg2) : FVec Ideal S4096x50 .f32) (ix2 b s))) = (r : EReal))
    (hv : (m ((c.tc : Thread nD τ).loc main_arg3) : FVec Ideal S4096x50 .f32) (ix2 b s) = v) (o : Fin 64) :
    (res_main_v88 m c : FVec Ideal S4096x50x64 .f32) (ix3 b s o) = encode (weights m c) (token h d r v) o := by
  unfold encode
  pointwise [res_main_v88]
  refine congrArg₂ (· + ·) (Finset.sum_congr rfl fun k _ => congrArg (· * _) (congrArg (max · 0) ?_)) rfl
  rw [sum_features]
  simp (disch := omega) only [dif_pos, dif_neg]
  have e24 : (id (constant (F := Ideal) S_ FTy.f32 0x41C00000#32) ix0 : EReal) = ((24 : ℝ) : EReal) := lit_day
  have e0 : (id (constant (F := Ideal) S_ FTy.f32 0x00000000#32) ix0 : EReal) = 0 := lit_zero
  have e60 : (id (constant (F := Ideal) S_ FTy.f32 0x42700000#32) ix0 : EReal) = ((60 : ℝ) : EReal) := lit_sixty
  simp only [e24, e0, e60, hr, hv, lit_day, lit_sixty, lit_turn, rem_sixty h0, no_correction minute_not_neg sixty_not_neg, phase_div, log1p_div h0,
    Ideal.sin_coe, Ideal.cos_coe, Fin.sum_univ_one, Fin.sum_univ_two]
  have n69 : ∀ x : ℕ, 69 + x - 48 - 16 - 5 = x := fun x => by omega
  have n76 : ∀ x : ℕ, 76 + x - 48 - 16 - 12 = x := fun x => by omega
  have n32 : ∀ x : ℕ, 32 + x - 32 = x := fun x => by omega
  have n48 : ∀ x : ℕ, 48 + x - 48 = x := fun x => by omega
  have n56 : ∀ x : ℕ, 56 + x - 48 - 8 = x := fun x => by omega
  have n64 : ∀ x : ℕ, 64 + x - 48 - 16 = x := fun x => by omega
  simp only [n69, n76]
  unfold Encoder.hidden
  refine congrArg₂ (· + ·) (congrArg₂ (· + ·) (congrArg₂ (· + ·) (congrArg₂ (· + ·) (congrArg₂ (· + ·) (congrArg₂ (· + ·)
    (congrArg₂ (· + ·) (congrArg₂ (· + ·) (congrArg₂ (· + ·) ?_ ?_) ?_) ?_) ?_) rfl) rfl) rfl) rfl) rfl
  · refine Finset.sum_congr rfl fun x _ => congrArg (· * _) (gather_row (by norm_num) _ _ _ b s _ h ?_)
    pointwise []
    exact hh
  · refine Finset.sum_congr rfl fun x _ => congrArg (· * _) ?_
    rw [hh, ← lit_turn, hourAngle_div, Ideal.sin_coe, Ideal.cos_coe]
    simp only [n32]
    rfl
  · refine Finset.sum_congr rfl fun x _ => congrArg₂ (· * ·) ((gather_row (by norm_num) _ _ _ b s _ d ?_).trans ?_) rfl
    · pointwise []
      exact hd
    · simp only [n48]
      rfl
  · refine Finset.sum_congr rfl fun x _ => congrArg (· * _) ?_
    rw [hd, day_mark]
    simp only [n56]
    rfl
  · refine Finset.sum_congr rfl fun x _ => congrArg₂ (· * ·) ((gather_row (by norm_num) _ _ _ b s _ (scaleOf r) ?_).trans ?_) rfl
    · pointwise []
      refine Eq.trans ?_ (scale_word (r := r))
      rw [← hr, ← e24, ← e0, ← lit_sixty, ← lit_five]
    · simp only [n64]
      rfl

end Cert.ReferenceIdeal.Value

end
-- ==== Proof.lean ====
/- The certificate's last step: the frames of the three programs, the named constants, and the equality of the kernel's
   result with the reference's. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_drawn_inputs
public import proofs.«01_k».proof.Proof.Value
public import proofs.«01_k».proof.Proof.Reference
public import Idealize.ShloMosaic.Lib.Claim
public import Idealize.ShloMosaic.Adequacy
public import Idealize.ShloMosaic.Init

@[expose] public section

noncomputable section

namespace Cert.Proof

open Idealize.ShloMosaic Idealize.SL.Sem

/-- The reference declares no semaphore, so any two states of its counters are the same. -/
theorem no_counters (f : GSem Cert.ReferenceIdeal.nD Cert.ReferenceIdeal.τ Cert.ReferenceIdeal.sig → Int) : f = fun _ => 0 := by
  funext x
  obtain ⟨_, s⟩ := x
  rcases s with s | s
  · exact absurd s.isLt (Nat.not_lt_zero _)
  · exact absurd s.isLt (Nat.not_lt_zero _)

/-- Two launches that agree on the weight arguments read the same weights. -/
theorem weights_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (h22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (h23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (h24 : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) :
    Cert.ReferenceIdeal.Value.weights m' c = Cert.KernelIdeal.Gen.argWeights m c := by
  unfold Cert.ReferenceIdeal.Value.weights Cert.KernelIdeal.Gen.argWeights
  rw [h4, h5, h6, h7, h8, h9, h10, h11, h12, h13, h14, h15, h16, h17, h18, h19, h20, h21, h22, h23, h24]

/-- The kernel and the reference end with the same result. -/
theorem algebraic : Cert.algebraic_KernelIdeal_ReferenceIdeal_pre_drawn_inputs (hKernelIdeal := Cert.KernelIdeal.Gen.facts) (hReferenceIdeal := Cert.ReferenceIdeal.Gen.facts) (hPre_drawn_inputs := Cert.Pre_drawn_inputs.Gen.facts) := by
  intro m g m' g' hp ha
  have key : ∀ c : Dev Cert.KernelIdeal.nD, (Cert.KernelIdeal.Gen.dats m 0 c).arrAt 23 Cert.KernelIdeal.cfg0.N = Cert.ReferenceIdeal.Value.res_main_v88 m' c := by
    intro c
    obtain ⟨h0, h1, h2, h3, h4, h5, h6, h7, h8, h9, h10, h11, h12, h13, h14, h15, h16, h17, h18, h19, h20, h21, h22, h23, h24⟩ := ha c
    refine Cert.KernelIdeal.Gen.final m c (hf := Cert.Pre_drawn_inputs.Gen.facts) hp _ ?_
    intro b s h d r v hr e0 e1 e2 e3 o
    rw [← weights_agree m m' c h4 h5 h6 h7 h8 h9 h10 h11 h12 h13 h14 h15 h16 h17 h18 h19 h20 h21 h22 h23 h24]
    exact Cert.ReferenceIdeal.Value.result_at m' c b s hr ((congrFun h0 _).trans e0) ((congrFun h1 _).trans e1)
      ((congrArg (fun w : EReal => min ((24 : ℝ) : EReal) (max 0 w)) (congrFun h2 _)).trans e2) ((congrFun h3 _).trans e3) o
  exact ⟨fun c => Cert.ReferenceIdeal.Value.res_main_v88 m' c,
    (θ_run _ _ _).mono (fun r h c => ⟨(h c).1.trans (key c), (h c).2⟩) (Cert.KernelIdeal.Value.run_blocks m g),
    Cert.ReferenceIdeal.Value.run m' g'⟩

theorem claim : Cert.Claim := by
  refine ⟨Cert.Kernel.Gen.facts, Cert.KernelIdeal.Gen.facts, Cert.ReferenceIdeal.Gen.facts, Cert.Pre_drawn_inputs.Gen.facts, ?_, ?_, ?_, ?_, ?_, ?_, algebraic⟩
  · exact fun m g _ => Cert.Kernel.Gen.frame m g
  · exact fun m g _ => Cert.KernelIdeal.Gen.frame m g
  · exact fun m g _ => Cert.KernelIdeal.Gen.frame m g
  · intro m g _; hlo_run <;> first | exact no_counters _ | simp
  · intro m g _; hlo_run <;> first | exact no_counters _ | simp
  · exact ⟨IdealRules.named_const.statement Cert.KernelIdeal.κ "inv24" .f32 0x3D2AAAAB#32 ((1 / 24 : ℝ) : EReal) rfl,
      IdealRules.named_const.statement Cert.KernelIdeal.κ "inv60" .f32 0x3C888889#32 ((1 / 60 : ℝ) : EReal) rfl,
      IdealRules.named_const.statement Cert.KernelIdeal.κ "half_pi" .f32 0x3FC90FDB#32 (((1 / 2) * Real.pi : ℝ) : EReal) rfl⟩

end Cert.Proof

end
